-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_ties [hPre_no_ties : Cert.Pre_no_ties.Facts] (m : (ℓ : Loc Cert.KernelIdeal.nD Cert.KernelIdeal.τ Cert.KernelIdeal.sig) → Buf (Elt Ideal) ℓ) : Prop :=
  ∀ c : Dev Cert.KernelIdeal.nD,
    (Cert.Pre_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_ties [hPre_no_ties : Cert.Pre_no_ties.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_ties.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_no_ties [hKernelIdeal : Cert.KernelIdeal.Facts] [hPre_no_ties : Cert.Pre_no_ties.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_ties m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_no_ties [hReferenceIdeal : Cert.ReferenceIdeal.Facts] [hPre_no_ties : Cert.Pre_no_ties.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_ties m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_no_ties [hKernelIdeal : Cert.KernelIdeal.Facts] [hReferenceIdeal : Cert.ReferenceIdeal.Facts] [hPre_no_ties : Cert.Pre_no_ties.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_ties m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v220) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_no_ties : Cert.Pre_no_ties.Facts),
    quiescent_Kernel (hKernel := hKernel)
    ∧ quiescent_KernelIdeal (hKernelIdeal := hKernelIdeal)
    ∧ quiescent_KernelIdeal_pre_no_ties (hKernelIdeal := hKernelIdeal) (hPre_no_ties := hPre_no_ties)
    ∧ quiescent_ReferenceIdeal (hReferenceIdeal := hReferenceIdeal)
    ∧ quiescent_ReferenceIdeal_pre_no_ties (hReferenceIdeal := hReferenceIdeal) (hPre_no_ties := hPre_no_ties)
    ∧ preserves_Kernel_KernelIdeal
    ∧ algebraic_KernelIdeal_ReferenceIdeal_pre_no_ties (hKernelIdeal := hKernelIdeal) (hReferenceIdeal := hReferenceIdeal) (hPre_no_ties := hPre_no_ties)
-- ==== Pre_no_ties.lean ====
abbrev S64x8192 : Shape := ⟨2, ![64, 8192]⟩
abbrev S64x24x24x768 : Shape := ⟨4, ![64, 24, 24, 768]⟩
abbrev S64x24x24x2 : Shape := ⟨4, ![64, 24, 24, 2]⟩
abbrev S64x576x768 : Shape := ⟨3, ![64, 576, 768]⟩
abbrev S64x576x2 : Shape := ⟨3, ![64, 576, 2]⟩
abbrev S64x576x576 : Shape := ⟨3, ![64, 576, 576]⟩
abbrev S_ : Shape := ⟨0, ![]⟩
abbrev S64x576 : Shape := ⟨2, ![64, 576]⟩
abbrev S64x576x1 : Shape := ⟨3, ![64, 576, 1]⟩
abbrev S64x1x576 : Shape := ⟨3, ![64, 1, 576]⟩
abbrev S64x576x1x2 : Shape := ⟨4, ![64, 576, 1, 2]⟩
abbrev S64x1x576x2 : Shape := ⟨4, ![64, 1, 576, 2]⟩
abbrev S64x576x576x2 : Shape := ⟨4, ![64, 576, 576, 2]⟩

class Facts : Prop where
  shapeCasts_S64x24x24x768_S64x576x768 : S64x24x24x768.ShapeCasts S64x576x768
  shapeCasts_S64x24x24x2_S64x576x2 : S64x24x24x2.ShapeCasts S64x576x2
  reducesTo_S64x576x768_S64x576_d2 : S64x576x768.ReducesTo [2] S64x576
  h_S_ : 0 < S_.numel
  bcast_S64x576_S64x576x1_0_1 : S64x576.BroadcastsInDim S64x576x1 (![0, 1] : Fin 2 → Fin S64x576x1.rank)
  bcast_S64x576_S64x1x576_0_2 : S64x576.BroadcastsInDim S64x1x576 (![0, 2] : Fin 2 → Fin S64x1x576.rank)
  bcast_S64x576x1_S64x576x576_0_1_2 : S64x576x1.BroadcastsInDim S64x576x576 (![0, 1, 2] : Fin 3 → Fin S64x576x576.rank)
  bcast_S64x1x576_S64x576x576_0_1_2 : S64x1x576.BroadcastsInDim S64x576x576 (![0, 1, 2] : Fin 3 → Fin S64x576x576.rank)
  bcast_S_S64x576x576 : S_.BroadcastsInDim S64x576x576 (![] : Fin 0 → Fin S64x576x576.rank)
  bcast_S64x576x2_S64x576x1x2_0_1_3 : S64x576x2.BroadcastsInDim S64x576x1x2 (![0, 1, 3] : Fin 3 → Fin S64x576x1x2.rank)
  bcast_S64x576x2_S64x1x576x2_0_2_3 : S64x576x2.BroadcastsInDim S64x1x576x2 (![0, 2, 3] : Fin 3 → Fin S64x1x576x2.rank)
  bcast_S64x576x1x2_S64x576x576x2_0_1_2_3 : S64x576x1x2.BroadcastsInDim S64x576x576x2 (![0, 1, 2, 3] : Fin 4 → Fin S64x576x576x2.rank)
  bcast_S64x1x576x2_S64x576x576x2_0_1_2_3 : S64x1x576x2.BroadcastsInDim S64x576x576x2 (![0, 1, 2, 3] : Fin 4 → Fin S64x576x576x2.rank)
  reducesTo_S64x576x576x2_S64x576x576_d3 : S64x576x576x2.ReducesTo [3] S64x576x576
  reducesTo_S64x576x576_S64x576_d2 : S64x576x576.ReducesTo [2] S64x576
  reducesTo_S64x576x576_S64x576_d1 : S64x576x576.ReducesTo [1] S64x576
  bcast_S_S64x8192 : S_.BroadcastsInDim S64x8192 (![] : Fin 0 → Fin S64x8192.rank)
  reducesTo_S64x8192_S_d0_1 : S64x8192.ReducesTo [0, 1] S_
  bcast_S_S64x24x24x768 : S_.BroadcastsInDim S64x24x24x768 (![] : Fin 0 → Fin S64x24x24x768.rank)
  reducesTo_S64x24x24x768_S_d0_1_2_3 : S64x24x24x768.ReducesTo [0, 1, 2, 3] S_
  bcast_S_S64x24x24x2 : S_.BroadcastsInDim S64x24x24x2 (![] : Fin 0 → Fin S64x24x24x2.rank)
  reducesTo_S64x24x24x2_S_d0_1_2_3 : S64x24x24x2.ReducesTo [0, 1, 2, 3] S_
  reducesTo_S64x576x576_S_d0_1_2 : S64x576x576.ReducesTo [0, 1, 2] S_
  dot_S64x576x768_S64x576x768_S64x576x576_2_2_1_1_0_0_wf : DotDims.WF S64x576x768 S64x576x768 S64x576x576 [2] [2] [1] [1] [0] [0]

variable [Facts]

variable {F : FTy → Type} [FloatOps F]
def dot_S64x576x768_S64x576x768_S64x576x576_2_2_1_1_0_0 : DotDims S64x576x768 S64x576x768 S64x576x576 where
  lhsContracting := [2]
  rhsContracting := [2]
  lhsNonContracting := [1]
  rhsNonContracting := [1]
  lhsBatch := [0]
  rhsBatch := [0]
  wf := dot_S64x576x768_S64x576x768_S64x576x576_2_2_1_1_0_0_wf
def reducer_argmin_f32_i32 : F .f32 × BitVec 32 → F .f32 × BitVec 32 → F .f32 × BitVec 32 :=
  fun a b =>
    let v2 := FloatOps.cmpf .olt a.1 b.1
    let v3 := FloatOps.cmpf .une a.1 a.1
    let v4 := IntOp.ori v2 v3
    let v5 := FloatOps.cmpf .oeq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)

def fn_argmin {F : FTy → Type} [FloatOps F] (arg0 : FVec F S64x576x576 .f32) : IVec S64x576 32 :=
  let v0 : IVec S64x576x576 32 := iotaInDim S64x576x576 32 2
  let cst : FVec F S_ .f32 := constant S_ .f32 0x7F800000#32
  let c : IVec S_ 32 := constantI S_ 32 0#32
  let v1_0 : FVec F S64x576 .f32 := (fun x y u v j => (Host.argReduce reducer_argmin_f32_i32 x y u v reducesTo_S64x576x576_S64x576_d2 h_S_ j).1) arg0 v0 cst c
  let v1_1 : IVec S64x576 32 := (fun x y u v j => (Host.argReduce reducer_argmin_f32_i32 x y u v reducesTo_S64x576x576_S64x576_d2 h_S_ j).2) arg0 v0 cst c
  v1_1

def fn_argmin_0 {F : FTy → Type} [FloatOps F] (arg0 : FVec F S64x576x576 .f32) : IVec S64x576 32 :=
  let v0 : IVec S64x576x576 32 := iotaInDim S64x576x576 32 1
  let cst : FVec F S_ .f32 := constant S_ .f32 0x7F800000#32
  let c : IVec S_ 32 := constantI S_ 32 0#32
  let v1_0 : FVec F S64x576 .f32 := (fun x y u v j => (Host.argReduce reducer_argmin_f32_i32 x y u v reducesTo_S64x576x576_S64x576_d1 h_S_ j).1) arg0 v0 cst c
  let v1_1 : IVec S64x576 32 := (fun x y u v j => (Host.argReduce reducer_argmin_f32_i32 x y u v reducesTo_S64x576x576_S64x576_d1 h_S_ j).2) arg0 v0 cst c
  v1_1

def fn_part6 {F : FTy → Type} [FloatOps F] (main_v111 : IVec S_ 1) (main_v112 : IVec S64x576x576 32) (main_v117 : IVec S64x576x576 1) (main_v118 : IVec S64x576x576 32) : IVec S_ 1 :=
  let main_v119 : IVec S64x576x576 1 := cmpi .eq main_v112 main_v118
  let main_v120 : IVec S64x576x576 1 := ori main_v117 main_v119
  let main_c_23 : IVec S_ 1 := constantI S_ 1 1#1
  let main_v121 : IVec S_ 1 := (fun x v => Host.reduce IntOp.andi x v reducesTo_S64x576x576_S_d0_1_2 h_S_) main_v120 main_c_23
  let main_v122 : IVec S_ 1 := andi main_v111 main_v121
  main_v122

def fn_part5 {F : FTy → Type} [FloatOps F] (main_v23 : FVec F S64x576x576 .f32) (main_v24 : FVec F S64x576 .f32) (main_v25 : FVec F S64x576 .f32) (main_v89 : IVec S_ 1) (main_v90 : IVec S64x576x576 32) (main_v91 : IVec S64x576x576 32) (main_v96 : IVec S64x576x576 1) : IVec S_ 1 :=
  let main_v97 : IVec S64x576x576 1 := cmpi .eq main_v90 main_v91
  let main_v98 : IVec S64x576x576 1 := ori main_v96 main_v97
  let main_c_21 : IVec S_ 1 := constantI S_ 1 1#1
  let main_v99 : IVec S_ 1 := (fun x v => Host.reduce IntOp.andi x v reducesTo_S64x576x576_S_d0_1_2 h_S_) main_v98 main_c_21
  let main_v100 : IVec S_ 1 := andi main_v89 main_v99
  let main_v101 : IVec S64x576x576 32 := iotaInDim S64x576x576 32 2
  let main_v102 : IVec S64x576 32 := fn_argmin (F := F) main_v23
  let main_v103 : IVec S64x576x1 32 := broadcastInDim S64x576x1 ![0, 1] bcast_S64x576_S64x576x1_0_1 main_v102
  let main_v104 : FVec F S64x576x1 .f32 := broadcastInDim S64x576x1 ![0, 1] bcast_S64x576_S64x576x1_0_1 main_v24
  let main_v105 : FVec F S64x576x576 .f32 := broadcastInDim S64x576x576 ![0, 1, 2] bcast_S64x576x1_S64x576x576_0_1_2 main_v104
  let main_v106 : IVec S64x576x576 1 := cmpf .une main_v23 main_v105
  let main_v107 : IVec S64x576x576 32 := broadcastInDim S64x576x576 ![0, 1, 2] bcast_S64x576x1_S64x576x576_0_1_2 main_v103
  let main_v108 : IVec S64x576x576 1 := cmpi .eq main_v101 main_v107
  let main_v109 : IVec S64x576x576 1 := ori main_v106 main_v108
  let main_c_22 : IVec S_ 1 := constantI S_ 1 1#1
  let main_v110 : IVec S_ 1 := (fun x v => Host.reduce IntOp.andi x v reducesTo_S64x576x576_S_d0_1_2 h_S_) main_v109 main_c_22
  let main_v111 : IVec S_ 1 := andi main_v100 main_v110
  let main_v112 : IVec S64x576x576 32 := iotaInDim S64x576x576 32 1
  let main_v113 : IVec S64x576 32 := fn_argmin_0 (F := F) main_v23
  let main_v114 : IVec S64x1x576 32 := broadcastInDim S64x1x576 ![0, 2] bcast_S64x576_S64x1x576_0_2 main_v113
  let main_v115 : FVec F S64x1x576 .f32 := broadcastInDim S64x1x576 ![0, 2] bcast_S64x576_S64x1x576_0_2 main_v25
  let main_v116 : FVec F S64x576x576 .f32 := broadcastInDim S64x576x576 ![0, 1, 2] bcast_S64x1x576_S64x576x576_0_1_2 main_v115
  let main_v117 : IVec S64x576x576 1 := cmpf .une main_v23 main_v116
  let main_v118 : IVec S64x576x576 32 := broadcastInDim S64x576x576 ![0, 1, 2] bcast_S64x1x576_S64x576x576_0_1_2 main_v114
  fn_part6 (F := F) main_v111 main_v112 main_v117 main_v118

def fn_part4 {F : FTy → Type} [FloatOps F] (main_v23 : FVec F S64x576x576 .f32) (main_v24 : FVec F S64x576 .f32) (main_v25 : FVec F S64x576 .f32) (main_v66 : IVec S_ 1) (main_v68 : IVec S64x576x576 32) (main_v69 : IVec S64x576x576 32) (main_v74 : IVec S64x576x576 1) : IVec S_ 1 :=
  let main_v75 : IVec S64x576x576 1 := cmpi .eq main_v68 main_v69
  let main_v76 : IVec S64x576x576 1 := ori main_v74 main_v75
  let main_c_19 : IVec S_ 1 := constantI S_ 1 1#1
  let main_v77 : IVec S_ 1 := (fun x v => Host.reduce IntOp.andi x v reducesTo_S64x576x576_S_d0_1_2 h_S_) main_v76 main_c_19
  let main_v78 : IVec S_ 1 := andi main_v66 main_v77
  let main_v79 : IVec S64x576x576 32 := iotaInDim S64x576x576 32 1
  let main_v80 : IVec S64x576x576 32 := iotaInDim S64x576x576 32 2
  let main_v81 : FVec F S64x576x1 .f32 := broadcastInDim S64x576x1 ![0, 1] bcast_S64x576_S64x576x1_0_1 main_v24
  let main_v82 : FVec F S64x1x576 .f32 := broadcastInDim S64x1x576 ![0, 2] bcast_S64x576_S64x1x576_0_2 main_v24
  let main_v83 : FVec F S64x576x576 .f32 := broadcastInDim S64x576x576 ![0, 1, 2] bcast_S64x576x1_S64x576x576_0_1_2 main_v81
  let main_v84 : FVec F S64x576x576 .f32 := broadcastInDim S64x576x576 ![0, 1, 2] bcast_S64x1x576_S64x576x576_0_1_2 main_v82
  let main_v85 : IVec S64x576x576 1 := cmpf .une main_v83 main_v84
  let main_v86 : IVec S64x576x576 1 := cmpi .eq main_v79 main_v80
  let main_v87 : IVec S64x576x576 1 := ori main_v85 main_v86
  let main_c_20 : IVec S_ 1 := constantI S_ 1 1#1
  let main_v88 : IVec S_ 1 := (fun x v => Host.reduce IntOp.andi x v reducesTo_S64x576x576_S_d0_1_2 h_S_) main_v87 main_c_20
  let main_v89 : IVec S_ 1 := andi main_v78 main_v88
  let main_v90 : IVec S64x576x576 32 := iotaInDim S64x576x576 32 1
  let main_v91 : IVec S64x576x576 32 := iotaInDim S64x576x576 32 2
  let main_v92 : FVec F S64x576x1 .f32 := broadcastInDim S64x576x1 ![0, 1] bcast_S64x576_S64x576x1_0_1 main_v25
  let main_v93 : FVec F S64x1x576 .f32 := broadcastInDim S64x1x576 ![0, 2] bcast_S64x576_S64x1x576_0_2 main_v25
  let main_v94 : FVec F S64x576x576 .f32 := broadcastInDim S64x576x576 ![0, 1, 2] bcast_S64x576x1_S64x576x576_0_1_2 main_v92
  let main_v95 : FVec F S64x576x576 .f32 := broadcastInDim S64x576x576 ![0, 1, 2] bcast_S64x1x576_S64x576x576_0_1_2 main_v93
  let main_v96 : IVec S64x576x576 1 := cmpf .une main_v94 main_v95
  fn_part5 (F := F) main_v23 main_v24 main_v25 main_v89 main_v90 main_v91 main_v96

def fn_part3 {F : FTy → Type} [FloatOps F] (main_v16 : FVec F S64x576x576 .f32) (main_v23 : FVec F S64x576x576 .f32) (main_v24 : FVec F S64x576 .f32) (main_v25 : FVec F S64x576 .f32) (main_v49 : IVec S_ 1) (main_v53 : IVec S_ 1) : IVec S_ 1 :=
  let main_v54 : IVec S_ 1 := andi main_v49 main_v53
  let main_cst_16 : FVec F S_ .f32 := constant S_ .f32 0x7F800000#32
  let main_v55 : FVec F S64x576 .f32 := (fun x v => Host.reduce FloatOps.minimumf x v reducesTo_S64x576x576_S64x576_d2 h_S_) main_v16 main_cst_16
  let main_v56 : IVec S64x576x576 32 := iotaInDim S64x576x576 32 1
  let main_v57 : IVec S64x576x576 32 := iotaInDim S64x576x576 32 2
  let main_v58 : FVec F S64x576x1 .f32 := broadcastInDim S64x576x1 ![0, 1] bcast_S64x576_S64x576x1_0_1 main_v55
  let main_v59 : FVec F S64x1x576 .f32 := broadcastInDim S64x1x576 ![0, 2] bcast_S64x576_S64x1x576_0_2 main_v55
  let main_v60 : FVec F S64x576x576 .f32 := broadcastInDim S64x576x576 ![0, 1, 2] bcast_S64x576x1_S64x576x576_0_1_2 main_v58
  let main_v61 : FVec F S64x576x576 .f32 := broadcastInDim S64x576x576 ![0, 1, 2] bcast_S64x1x576_S64x576x576_0_1_2 main_v59
  let main_v62 : IVec S64x576x576 1 := cmpf .une main_v60 main_v61
  let main_v63 : IVec S64x576x576 1 := cmpi .eq main_v56 main_v57
  let main_v64 : IVec S64x576x576 1 := ori main_v62 main_v63
  let main_c_17 : IVec S_ 1 := constantI S_ 1 1#1
  let main_v65 : IVec S_ 1 := (fun x v => Host.reduce IntOp.andi x v reducesTo_S64x576x576_S_d0_1_2 h_S_) main_v64 main_c_17
  let main_v66 : IVec S_ 1 := andi main_v54 main_v65
  let main_cst_18 : FVec F S_ .f32 := constant S_ .f32 0x7F800000#32
  let main_v67 : FVec F S64x576 .f32 := (fun x v => Host.reduce FloatOps.minimumf x v reducesTo_S64x576x576_S64x576_d1 h_S_) main_v16 main_cst_18
  let main_v68 : IVec S64x576x576 32 := iotaInDim S64x576x576 32 1
  let main_v69 : IVec S64x576x576 32 := iotaInDim S64x576x576 32 2
  let main_v70 : FVec F S64x576x1 .f32 := broadcastInDim S64x576x1 ![0, 1] bcast_S64x576_S64x576x1_0_1 main_v67
  let main_v71 : FVec F S64x1x576 .f32 := broadcastInDim S64x1x576 ![0, 2] bcast_S64x576_S64x1x576_0_2 main_v67
  let main_v72 : FVec F S64x576x576 .f32 := broadcastInDim S64x576x576 ![0, 1, 2] bcast_S64x576x1_S64x576x576_0_1_2 main_v70
  let main_v73 : FVec F S64x576x576 .f32 := broadcastInDim S64x576x576 ![0, 1, 2] bcast_S64x1x576_S64x576x576_0_1_2 main_v71
  let main_v74 : IVec S64x576x576 1 := cmpf .une main_v72 main_v73
  fn_part4 (F := F) main_v23 main_v24 main_v25 main_v66 main_v68 main_v69 main_v74

def fn_part2 {F : FTy → Type} [FloatOps F] (main_arg3 : FVec F S64x24x24x768 .f32) (main_arg4 : FVec F S64x24x24x2 .f32) (main_arg5 : FVec F S64x24x24x2 .f32) (main_v16 : FVec F S64x576x576 .f32) (main_v23 : FVec F S64x576x576 .f32) (main_v24 : FVec F S64x576 .f32) (main_v25 : FVec F S64x576 .f32) (main_v34 : IVec S_ 1) (main_v35 : FVec F S64x24x24x768 .f32) (main_v36 : FVec F S64x24x24x768 .f32) : IVec S_ 1 :=
  let main_v37 : IVec S64x24x24x768 1 := cmpf .olt main_v35 main_v36
  let main_c_9 : IVec S_ 1 := constantI S_ 1 1#1
  let main_v38 : IVec S_ 1 := (fun x v => Host.reduce IntOp.andi x v reducesTo_S64x24x24x768_S_d0_1_2_3 h_S_) main_v37 main_c_9
  let main_v39 : IVec S_ 1 := andi main_v34 main_v38
  let main_v40 : FVec F S64x24x24x768 .f32 := Host.absf main_arg3
  let main_cst_10 : FVec F S_ .f32 := constant S_ .f32 0x7F800000#32
  let main_v41 : FVec F S64x24x24x768 .f32 := broadcastInDim S64x24x24x768 ![] bcast_S_S64x24x24x768 main_cst_10
  let main_v42 : IVec S64x24x24x768 1 := cmpf .olt main_v40 main_v41
  let main_c_11 : IVec S_ 1 := constantI S_ 1 1#1
  let main_v43 : IVec S_ 1 := (fun x v => Host.reduce IntOp.andi x v reducesTo_S64x24x24x768_S_d0_1_2_3 h_S_) main_v42 main_c_11
  let main_v44 : IVec S_ 1 := andi main_v39 main_v43
  let main_v45 : FVec F S64x24x24x2 .f32 := Host.absf main_arg4
  let main_cst_12 : FVec F S_ .f32 := constant S_ .f32 0x7F800000#32
  let main_v46 : FVec F S64x24x24x2 .f32 := broadcastInDim S64x24x24x2 ![] bcast_S_S64x24x24x2 main_cst_12
  let main_v47 : IVec S64x24x24x2 1 := cmpf .olt main_v45 main_v46
  let main_c_13 : IVec S_ 1 := constantI S_ 1 1#1
  let main_v48 : IVec S_ 1 := (fun x v => Host.reduce IntOp.andi x v reducesTo_S64x24x24x2_S_d0_1_2_3 h_S_) main_v47 main_c_13
  let main_v49 : IVec S_ 1 := andi main_v44 main_v48
  let main_v50 : FVec F S64x24x24x2 .f32 := Host.absf main_arg5
  let main_cst_14 : FVec F S_ .f32 := constant S_ .f32 0x7F800000#32
  let main_v51 : FVec F S64x24x24x2 .f32 := broadcastInDim S64x24x24x2 ![] bcast_S_S64x24x24x2 main_cst_14
  let main_v52 : IVec S64x24x24x2 1 := cmpf .olt main_v50 main_v51
  let main_c_15 : IVec S_ 1 := constantI S_ 1 1#1
  let main_v53 : IVec S_ 1 := (fun x v => Host.reduce IntOp.andi x v reducesTo_S64x24x24x2_S_d0_1_2_3 h_S_) main_v52 main_c_15
  fn_part3 (F := F) main_v16 main_v23 main_v24 main_v25 main_v49 main_v53

def fn_part1 {F : FTy → Type} [FloatOps F] (main_arg0 : FVec F S64x8192 .f32) (main_arg1 : FVec F S64x8192 .f32) (main_arg2 : FVec F S64x24x24x768 .f32) (main_arg3 : FVec F S64x24x24x768 .f32) (main_arg4 : FVec F S64x24x24x2 .f32) (main_arg5 : FVec F S64x24x24x2 .f32) (main_v16 : FVec F S64x576x576 .f32) (main_v19 : FVec F S64x576x576x2 .f32) (main_v20 : FVec F S64x576x576x2 .f32) : IVec S_ 1 :=
  let main_v21 : FVec F S64x576x576x2 .f32 := subf main_v19 main_v20
  let main_v22 : FVec F S64x576x576x2 .f32 := mulf main_v21 main_v21
  let main_cst_2 : FVec F S_ .f32 := constant S_ .f32 0x00000000#32
  let main_v23 : FVec F S64x576x576 .f32 := (fun x v => Host.reduceAdd x v reducesTo_S64x576x576x2_S64x576x576_d3 h_S_) main_v22 main_cst_2
  let main_cst_3 : FVec F S_ .f32 := constant S_ .f32 0x7F800000#32
  let main_v24 : FVec F S64x576 .f32 := (fun x v => Host.reduce FloatOps.minimumf x v reducesTo_S64x576x576_S64x576_d2 h_S_) main_v23 main_cst_3
  let main_cst_4 : FVec F S_ .f32 := constant S_ .f32 0x7F800000#32
  let main_v25 : FVec F S64x576 .f32 := (fun x v => Host.reduce FloatOps.minimumf x v reducesTo_S64x576x576_S64x576_d1 h_S_) main_v23 main_cst_4
  let main_v26 : FVec F S64x8192 .f32 := Host.absf main_arg0
  let main_cst_5 : FVec F S_ .f32 := constant S_ .f32 0x7F800000#32
  let main_v27 : FVec F S64x8192 .f32 := broadcastInDim S64x8192 ![] bcast_S_S64x8192 main_cst_5
  let main_v28 : IVec S64x8192 1 := cmpf .olt main_v26 main_v27
  let main_c : IVec S_ 1 := constantI S_ 1 1#1
  let main_v29 : IVec S_ 1 := (fun x v => Host.reduce IntOp.andi x v reducesTo_S64x8192_S_d0_1 h_S_) main_v28 main_c
  let main_v30 : FVec F S64x8192 .f32 := Host.absf main_arg1
  let main_cst_6 : FVec F S_ .f32 := constant S_ .f32 0x7F800000#32
  let main_v31 : FVec F S64x8192 .f32 := broadcastInDim S64x8192 ![] bcast_S_S64x8192 main_cst_6
  let main_v32 : IVec S64x8192 1 := cmpf .olt main_v30 main_v31
  let main_c_7 : IVec S_ 1 := constantI S_ 1 1#1
  let main_v33 : IVec S_ 1 := (fun x v => Host.reduce IntOp.andi x v reducesTo_S64x8192_S_d0_1 h_S_) main_v32 main_c_7
  let main_v34 : IVec S_ 1 := andi main_v29 main_v33
  let main_v35 : FVec F S64x24x24x768 .f32 := Host.absf main_arg2
  let main_cst_8 : FVec F S_ .f32 := constant S_ .f32 0x7F800000#32
  let main_v36 : FVec F S64x24x24x768 .f32 := broadcastInDim S64x24x24x768 ![] bcast_S_S64x24x24x768 main_cst_8
  fn_part2 (F := F) main_arg3 main_arg4 main_arg5 main_v16 main_v23 main_v24 main_v25 main_v34 main_v35 main_v36

def fn {F : FTy → Type} [FloatOps F] (main_arg0 : FVec F S64x8192 .f32) (main_arg1 : FVec F S64x8192 .f32) (main_arg2 : FVec F S64x24x24x768 .f32) (main_arg3 : FVec F S64x24x24x768 .f32) (main_arg4 : FVec F S64x24x24x2 .f32) (main_arg5 : FVec F S64x24x24x2 .f32) : IVec S_ 1 :=
  let main_v0 : FVec F S64x576x768 .f32 := shapeCast S64x576x768 main_arg2 shapeCasts_S64x24x24x768_S64x576x768
  let main_v1 : FVec F S64x576x768 .f32 := shapeCast S64x576x768 main_arg3 shapeCasts_S64x24x24x768_S64x576x768
  let main_v2 : FVec F S64x576x2 .f32 := shapeCast S64x576x2 main_arg4 shapeCasts_S64x24x24x2_S64x576x2
  let main_v3 : FVec F S64x576x2 .f32 := shapeCast S64x576x2 main_arg5 shapeCasts_S64x24x24x2_S64x576x2
  let main_v4 : FVec F S64x576x576 .f32 := (fun l r => Host.dotGeneral dot_S64x576x768_S64x576x768_S64x576x576_2_2_1_1_0_0 none l r) main_v0 main_v1
  let main_v5 : FVec F S64x576x768 .f32 := mulf main_v0 main_v0
  let main_cst : FVec F S_ .f32 := constant S_ .f32 0x00000000#32
  let main_v6 : FVec F S64x576 .f32 := (fun x v => Host.reduceAdd x v reducesTo_S64x576x768_S64x576_d2 h_S_) main_v5 main_cst
  let main_v7 : FVec F S64x576x1 .f32 := broadcastInDim S64x576x1 ![0, 1] bcast_S64x576_S64x576x1_0_1 main_v6
  let main_v8 : FVec F S64x576x768 .f32 := mulf main_v1 main_v1
  let main_cst_0 : FVec F S_ .f32 := constant S_ .f32 0x00000000#32
  let main_v9 : FVec F S64x576 .f32 := (fun x v => Host.reduceAdd x v reducesTo_S64x576x768_S64x576_d2 h_S_) main_v8 main_cst_0
  let main_v10 : FVec F S64x1x576 .f32 := broadcastInDim S64x1x576 ![0, 2] bcast_S64x576_S64x1x576_0_2 main_v9
  let main_v11 : FVec F S64x576x576 .f32 := broadcastInDim S64x576x576 ![0, 1, 2] bcast_S64x576x1_S64x576x576_0_1_2 main_v7
  let main_v12 : FVec F S64x576x576 .f32 := broadcastInDim S64x576x576 ![0, 1, 2] bcast_S64x1x576_S64x576x576_0_1_2 main_v10
  let main_v13 : FVec F S64x576x576 .f32 := addf main_v11 main_v12
  let main_cst_1 : FVec F S_ .f32 := constant S_ .f32 0x40000000#32
  let main_v14 : FVec F S64x576x576 .f32 := broadcastInDim S64x576x576 ![] bcast_S_S64x576x576 main_cst_1
  let main_v15 : FVec F S64x576x576 .f32 := mulf main_v14 main_v4
  let main_v16 : FVec F S64x576x576 .f32 := subf main_v13 main_v15
  let main_v17 : FVec F S64x576x1x2 .f32 := broadcastInDim S64x576x1x2 ![0, 1, 3] bcast_S64x576x2_S64x576x1x2_0_1_3 main_v2
  let main_v18 : FVec F S64x1x576x2 .f32 := broadcastInDim S64x1x576x2 ![0, 2, 3] bcast_S64x576x2_S64x1x576x2_0_2_3 main_v3
  let main_v19 : FVec F S64x576x576x2 .f32 := broadcastInDim S64x576x576x2 ![0, 1, 2, 3] bcast_S64x576x1x2_S64x576x576x2_0_1_2_3 main_v17
  let main_v20 : FVec F S64x576x576x2 .f32 := broadcastInDim S64x576x576x2 ![0, 1, 2, 3] bcast_S64x1x576x2_S64x576x576x2_0_1_2_3 main_v18
  fn_part1 (F := F) main_arg0 main_arg1 main_arg2 main_arg3 main_arg4 main_arg5 main_v16 main_v19 main_v20
-- ==== Kernel.lean ====
abbrev S64x8192 : Shape := ⟨2, ![64, 8192]⟩
abbrev S64x24x24x768 : Shape := ⟨4, ![64, 24, 24, 768]⟩
abbrev S64x24x24x2 : Shape := ⟨4, ![64, 24, 24, 2]⟩
abbrev S64x576x768 : Shape := ⟨3, ![64, 576, 768]⟩
abbrev S64x576x2 : Shape := ⟨3, ![64, 576, 2]⟩
abbrev S64x2x576 : Shape := ⟨3, ![64, 2, 576]⟩
abbrev S64x8x576 : Shape := ⟨3, ![64, 8, 576]⟩
abbrev S4x576x768 : Shape := ⟨3, ![4, 576, 768]⟩
abbrev S4x2x576 : Shape := ⟨3, ![4, 2, 576]⟩
abbrev S4x8x576 : Shape := ⟨3, ![4, 8, 576]⟩
abbrev S1x576x768 : Shape := ⟨3, ![1, 576, 768]⟩
abbrev S576x768 : Shape := ⟨2, ![576, 768]⟩
abbrev S1x2x576 : Shape := ⟨3, ![1, 2, 576]⟩
abbrev S2x576 : Shape := ⟨2, ![2, 576]⟩
abbrev S1x768 : Shape := ⟨2, ![1, 768]⟩
abbrev S576 : Shape := ⟨1, ![576]⟩
abbrev S576x1 : Shape := ⟨2, ![576, 1]⟩
abbrev S1x576 : Shape := ⟨2, ![1, 576]⟩
abbrev S576x576 : Shape := ⟨2, ![576, 576]⟩
abbrev S8x576 : Shape := ⟨2, ![8, 576]⟩
abbrev S1x8x576 : Shape := ⟨3, ![1, 8, 576]⟩
abbrev S64x1x576 : Shape := ⟨3, ![64, 1, 576]⟩
abbrev S64x576 : Shape := ⟨2, ![64, 576]⟩
abbrev S1x1 : Shape := ⟨2, ![1, 1]⟩
abbrev S8192 : Shape := ⟨1, ![8192]⟩
abbrev S1x8192 : Shape := ⟨2, ![1, 8192]⟩
abbrev S64x64 : Shape := ⟨2, ![64, 64]⟩
abbrev S1x64x64 : Shape := ⟨3, ![1, 64, 64]⟩
abbrev S1 : Shape := ⟨1, ![1]⟩
abbrev S1x1x1 : Shape := ⟨3, ![1, 1, 1]⟩
abbrev S1x1x8192 : Shape := ⟨3, ![1, 1, 8192]⟩
abbrev S1x64x8192 : Shape := ⟨3, ![1, 64, 8192]⟩
abbrev S64x1 : Shape := ⟨2, ![64, 1]⟩
abbrev S64 : Shape := ⟨1, ![64]⟩
abbrev S1x64x1 : Shape := ⟨3, ![1, 64, 1]⟩
abbrev S_ : Shape := ⟨0, ![]⟩

abbrev nBuf : Space → Nat
  | .hbm => 27
  | .vmem => 19
  | .smem => 0
  | _ => 0

abbrev bufTy : (tb : Table) → Fin (tcTables nBuf tb) → BufTy
  | .hbm, ⟨0, _⟩ => ⟨S64x8192, .f32⟩
  | .hbm, ⟨1, _⟩ => ⟨S64x8192, .f32⟩
  | .hbm, ⟨2, _⟩ => ⟨S64x24x24x768, .f32⟩
  | .hbm, ⟨3, _⟩ => ⟨S64x24x24x768, .f32⟩
  | .hbm, ⟨4, _⟩ => ⟨S64x24x24x2, .f32⟩
  | .hbm, ⟨5, _⟩ => ⟨S64x24x24x2, .f32⟩
  | .hbm, ⟨6, _⟩ => ⟨S64x576x768, .f32⟩
  | .hbm, ⟨7, _⟩ => ⟨S64x576x768, .f32⟩
  | .hbm, ⟨8, _⟩ => ⟨S64x576x2, .f32⟩
  | .hbm, ⟨9, _⟩ => ⟨S64x2x576, .f32⟩
  | .hbm, ⟨10, _⟩ => ⟨S64x576x2, .f32⟩
  | .hbm, ⟨11, _⟩ => ⟨S64x2x576, .f32⟩
  | .hbm, ⟨12, _⟩ => ⟨S64x8x576, .f32⟩
  | .hbm, ⟨13, _⟩ => ⟨S64x1x576, .f32⟩
  | .hbm, ⟨14, _⟩ => ⟨S64x576, .f32⟩
  | .hbm, ⟨15, _⟩ => ⟨S64x1x576, .f32⟩
  | .hbm, ⟨16, _⟩ => ⟨S64x576, .f32⟩
  | .hbm, ⟨17, _⟩ => ⟨S64x1x576, .f32⟩
  | .hbm, ⟨18, _⟩ => ⟨S64x576, .f32⟩
  | .hbm, ⟨19, _⟩ => ⟨S64x1x576, .f32⟩
  | .hbm, ⟨20, _⟩ => ⟨S64x576, .f32⟩
  | .hbm, ⟨21, _⟩ => ⟨S64x1x576, .f32⟩
  | .hbm, ⟨22, _⟩ => ⟨S64x576, .f32⟩
  | .hbm, ⟨23, _⟩ => ⟨S64x1x576, .f32⟩
  | .hbm, ⟨24, _⟩ => ⟨S64x576, .f32⟩
  | .hbm, ⟨25, _⟩ => ⟨S1x1, .f32⟩
  | .hbm, ⟨26, _⟩ => ⟨S_, .f32⟩
  | .local _ .vmem, ⟨0, _⟩ => ⟨S4x576x768, .f32⟩
  | .local _ .vmem, ⟨1, _⟩ => ⟨S4x576x768, .f32⟩
  | .local _ .vmem, ⟨2, _⟩ => ⟨S4x576x768, .f32⟩
  | .local _ .vmem, ⟨3, _⟩ => ⟨S4x576x768, .f32⟩
  | .local _ .vmem, ⟨4, _⟩ => ⟨S4x2x576, .f32⟩
  | .local _ .vmem, ⟨5, _⟩ => ⟨S4x2x576, .f32⟩
  | .local _ .vmem, ⟨6, _⟩ => ⟨S4x2x576, .f32⟩
  | .local _ .vmem, ⟨7, _⟩ => ⟨S4x2x576, .f32⟩
  | .local _ .vmem, ⟨8, _⟩ => ⟨S4x8x576, .f32⟩
  | .local _ .vmem, ⟨9, _⟩ => ⟨S4x8x576, .f32⟩
  | .local _ .vmem, ⟨10, _⟩ => ⟨S64x8192, .f32⟩
  | .local _ .vmem, ⟨11, _⟩ => ⟨S64x8192, .f32⟩
  | .local _ .vmem, ⟨12, _⟩ => ⟨S64x576, .f32⟩
  | .local _ .vmem, ⟨13, _⟩ => ⟨S64x576, .f32⟩
  | .local _ .vmem, ⟨14, _⟩ => ⟨S64x576, .f32⟩
  | .local _ .vmem, ⟨15, _⟩ => ⟨S64x576, .f32⟩
  | .local _ .vmem, ⟨16, _⟩ => ⟨S64x576, .f32⟩
  | .local _ .vmem, ⟨17, _⟩ => ⟨S64x576, .f32⟩
  | .local _ .vmem, ⟨18, _⟩ => ⟨S1x1, .f32⟩
  | _, _ => ⟨S64x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x576x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x576x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x2x576 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x2x576 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x8x576 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := .none

abbrev stage1_0 : Fin 1 → Memref sig .tc .vmem S64x8192 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S64x8192 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S64x576 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S64x576 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S64x576 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S64x576 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S64x576 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S64x576 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S1x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
-- ==== ReferenceIdeal.lean ====
abbrev S64x8192 : Shape := ⟨2, ![64, 8192]⟩
abbrev S64x24x24x768 : Shape := ⟨4, ![64, 24, 24, 768]⟩
abbrev S64x24x24x2 : Shape := ⟨4, ![64, 24, 24, 2]⟩
abbrev S_ : Shape := ⟨0, ![]⟩
abbrev S8192 : Shape := ⟨1, ![8192]⟩
abbrev S1x8192 : Shape := ⟨2, ![1, 8192]⟩
abbrev S8192x64 : Shape := ⟨2, ![8192, 64]⟩
abbrev S8192x8192 : Shape := ⟨2, ![8192, 8192]⟩
abbrev S64x576x768 : Shape := ⟨3, ![64, 576, 768]⟩
abbrev S64x576x2 : Shape := ⟨3, ![64, 576, 2]⟩
abbrev S64x576 : Shape := ⟨2, ![64, 576]⟩
abbrev S64x576x1 : Shape := ⟨3, ![64, 576, 1]⟩
abbrev S64x1x576 : Shape := ⟨3, ![64, 1, 576]⟩
abbrev S64x576x576 : Shape := ⟨3, ![64, 576, 576]⟩
abbrev S64x20 : Shape := ⟨2, ![64, 20]⟩
abbrev S64x20x1 : Shape := ⟨3, ![64, 20, 1]⟩
abbrev S1 : Shape := ⟨1, ![1]⟩
abbrev S1x1x1 : Shape := ⟨3, ![1, 1, 1]⟩
abbrev S64x20x768 : Shape := ⟨3, ![64, 20, 768]⟩
abbrev S64x4 : Shape := ⟨2, ![64, 4]⟩
abbrev S64x4x1 : Shape := ⟨3, ![64, 4, 1]⟩
abbrev S64x4x768 : Shape := ⟨3, ![64, 4, 768]⟩

abbrev nBuf : Space → Nat
  | .hbm => 616
  | .vmem => 0
  | .smem => 0
  | _ => 0

abbrev hbmTy0_0 (i : Nat) : BufTy := match i % 128 with
  | 0 => ⟨S64x8192, .f32⟩
  | 1 => ⟨S64x8192, .f32⟩
  | 2 => ⟨S64x24x24x768, .f32⟩
  | 3 => ⟨S64x24x24x768, .f32⟩
  | 4 => ⟨S64x24x24x2, .f32⟩
  | 5 => ⟨S64x24x24x2, .f32⟩
  | 6 => ⟨S64x8192, .f32⟩
  | 7 => ⟨S64x8192, .f32⟩
  | 8 => ⟨S_, .f32⟩
  | 9 => ⟨S_, .f32⟩
  | 10 => ⟨S_, .f32⟩
  | 11 => ⟨S_, .f32⟩
  | 12 => ⟨S_, .i32⟩
  | 13 => ⟨S_, .f32⟩
  | 14 => ⟨S8192, .f32⟩
  | 15 => ⟨S1x8192, .f32⟩
  | 16 => ⟨S_, .f32⟩
  | 17 => ⟨S1x8192, .f32⟩
  | 18 => ⟨S1x8192, .f32⟩
  | 19 => ⟨S64x8192, .f32⟩
  | 20 => ⟨S64x8192, .f32⟩
  | 21 => ⟨S64x8192, .f32⟩
  | 22 => ⟨S_, .f32⟩
  | 23 => ⟨S_, .f32⟩
  | 24 => ⟨S_, .f32⟩
  | 25 => ⟨S_, .f32⟩
  | 26 => ⟨S8192, .f32⟩
  | 27 => ⟨S8192, .f32⟩
  | 28 => ⟨S8192, .f32⟩
  | 29 => ⟨S_, .f32⟩
  | 30 => ⟨S_, .i1⟩
  | 31 => ⟨S_, .f32⟩
  | 32 => ⟨S_, .f32⟩
  | 33 => ⟨S8192, .f32⟩
  | 34 => ⟨S8192, .f32⟩
  | 35 => ⟨S_, .f32⟩
  | 36 => ⟨S8192, .f32⟩
  | 37 => ⟨S8192, .f32⟩
  | 38 => ⟨S8192, .f32⟩
  | 39 => ⟨S_, .f32⟩
  | 40 => ⟨S8192, .f32⟩
  | 41 => ⟨S8192, .f32⟩
  | 42 => ⟨S_, .f32⟩
  | 43 => ⟨S8192, .f32⟩
  | 44 => ⟨S8192, .f32⟩
  | 45 => ⟨S_, .f32⟩
  | 46 => ⟨S_, .f32⟩
  | 47 => ⟨S_, .f32⟩
  | 48 => ⟨S_, .f32⟩
  | 49 => ⟨S_, .i32⟩
  | 50 => ⟨S_, .f32⟩
  | 51 => ⟨S8192, .f32⟩
  | 52 => ⟨S1x8192, .f32⟩
  | 53 => ⟨S_, .f32⟩
  | 54 => ⟨S1x8192, .f32⟩
  | 55 => ⟨S1x8192, .f32⟩
  | 56 => ⟨S64x8192, .f32⟩
  | 57 => ⟨S64x8192, .f32⟩
  | 58 => ⟨S64x8192, .f32⟩
  | 59 => ⟨S_, .f32⟩
  | 60 => ⟨S_, .f32⟩
  | 61 => ⟨S_, .f32⟩
  | 62 => ⟨S_, .f32⟩
  | 63 => ⟨S8192, .f32⟩
  | 64 => ⟨S8192, .f32⟩
  | 65 => ⟨S8192, .f32⟩
  | 66 => ⟨S_, .f32⟩
  | 67 => ⟨S_, .i1⟩
  | 68 => ⟨S_, .f32⟩
  | 69 => ⟨S_, .f32⟩
  | 70 => ⟨S8192, .f32⟩
  | 71 => ⟨S8192, .f32⟩
  | 72 => ⟨S_, .f32⟩
  | 73 => ⟨S8192, .f32⟩
  | 74 => ⟨S8192, .f32⟩
  | 75 => ⟨S8192, .f32⟩
  | 76 => ⟨S_, .f32⟩
  | 77 => ⟨S8192, .f32⟩
  | 78 => ⟨S8192, .f32⟩
  | 79 => ⟨S_, .f32⟩
  | 80 => ⟨S8192, .f32⟩
  | 81 => ⟨S8192, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S8192, .f32⟩
  | 91 => ⟨S_, .f32⟩
  | 92 => ⟨S8192, .f32⟩
  | 93 => ⟨S8192, .f32⟩
  | 94 => ⟨S1x8192, .f32⟩
  | 95 => ⟨S64x8192, .f32⟩
  | 96 => ⟨S64x8192, .f32⟩
  | 97 => ⟨S8192x64, .f32⟩
  | 98 => ⟨S8192x8192, .f32⟩
  | 99 => ⟨S_, .f32⟩
  | 100 => ⟨S8192x8192, .f32⟩
  | 101 => ⟨S8192x8192, .f32⟩
  | 102 => ⟨S8192x8192, .i32⟩
  | 103 => ⟨S8192x8192, .i32⟩
  | 104 => ⟨S8192x8192, .i1⟩
  | 105 => ⟨S_, .f32⟩
  | 106 => ⟨S_, .f32⟩
  | 107 => ⟨S8192x8192, .f32⟩
  | 108 => ⟨S8192x8192, .f32⟩
  | 109 => ⟨S8192x8192, .f32⟩
  | 110 => ⟨S8192x8192, .f32⟩
  | 111 => ⟨S_, .f32⟩
  | 112 => ⟨S_, .f32⟩
  | 113 => ⟨S_, .f32⟩
  | 114 => ⟨S_, .f32⟩
  | 115 => ⟨S_, .f32⟩
  | 116 => ⟨S8192, .f32⟩
  | 117 => ⟨S_, .f32⟩
  | 118 => ⟨S8192, .f32⟩
  | 119 => ⟨S8192, .f32⟩
  | 120 => ⟨S1x8192, .f32⟩
  | 121 => ⟨S64x8192, .f32⟩
  | 122 => ⟨S64x8192, .f32⟩
  | 123 => ⟨S8192x64, .f32⟩
  | 124 => ⟨S8192x8192, .f32⟩
  | 125 => ⟨S_, .f32⟩
  | 126 => ⟨S8192x8192, .f32⟩
  | 127 => ⟨S8192x8192, .f32⟩
  | _ => ⟨S64x8192, .f32⟩

abbrev hbmTy0_1 (i : Nat) : BufTy := match i % 128 with
  | 0 => ⟨S8192x8192, .i32⟩
  | 1 => ⟨S8192x8192, .i32⟩
  | 2 => ⟨S8192x8192, .i1⟩
  | 3 => ⟨S_, .f32⟩
  | 4 => ⟨S_, .f32⟩
  | 5 => ⟨S8192x8192, .f32⟩
  | 6 => ⟨S8192x8192, .f32⟩
  | 7 => ⟨S8192x8192, .f32⟩
  | 8 => ⟨S8192x8192, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S64x576x768, .f32⟩
  | 23 => ⟨S64x576x768, .f32⟩
  | 24 => ⟨S64x576x2, .f32⟩
  | 25 => ⟨S64x576x2, .f32⟩
  | 26 => ⟨S64x576x768, .f32⟩
  | 27 => ⟨S_, .f32⟩
  | 28 => ⟨S64x576, .f32⟩
  | 29 => ⟨S64x576x1, .f32⟩
  | 30 => ⟨S64x576x768, .f32⟩
  | 31 => ⟨S_, .f32⟩
  | 32 => ⟨S64x576, .f32⟩
  | 33 => ⟨S64x1x576, .f32⟩
  | 34 => ⟨S64x576x576, .f32⟩
  | 35 => ⟨S64x576x576, .f32⟩
  | 36 => ⟨S64x576x576, .f32⟩
  | 37 => ⟨S64x576x576, .f32⟩
  | 38 => ⟨S_, .f32⟩
  | 39 => ⟨S64x576x576, .f32⟩
  | 40 => ⟨S64x576x576, .f32⟩
  | 41 => ⟨S64x576x576, .f32⟩
  | 42 => ⟨S_, .f32⟩
  | 43 => ⟨S64x576x576, .f32⟩
  | 44 => ⟨S64x576x576, .f32⟩
  | 45 => ⟨S64x576x576, .f32⟩
  | 46 => ⟨S_, .f32⟩
  | 47 => ⟨S64x576, .f32⟩
  | 48 => ⟨S64x576x576, .i32⟩
  | 49 => ⟨S64x576x1, .f32⟩
  | 50 => ⟨S64x576x576, .f32⟩
  | 51 => ⟨S64x576x576, .i1⟩
  | 52 => ⟨S_, .i32⟩
  | 53 => ⟨S_, .i32⟩
  | 54 => ⟨S64x576x576, .i32⟩
  | 55 => ⟨S64x576x576, .i32⟩
  | 56 => ⟨S_, .i32⟩
  | 57 => ⟨S64x576, .i32⟩
  | 58 => ⟨S64x576, .i32⟩
  | 59 => ⟨S64x576, .f32⟩
  | 60 => ⟨S64x576, .i32⟩
  | 61 => ⟨S64x20, .i32⟩
  | 62 => ⟨S64x20, .i32⟩
  | 63 => ⟨S64x20x1, .i32⟩
  | 64 => ⟨S_, .i32⟩
  | 65 => ⟨S64x20x1, .i32⟩
  | 66 => ⟨S64x20x1, .i1⟩
  | 67 => ⟨S_, .i32⟩
  | 68 => ⟨S64x20x1, .i32⟩
  | 69 => ⟨S64x20x1, .i32⟩
  | 70 => ⟨S64x20x1, .i32⟩
  | 71 => ⟨S1, .i32⟩
  | 72 => ⟨S_, .i32⟩
  | 73 => ⟨S64x20x1, .i32⟩
  | 74 => ⟨S64x20x1, .i1⟩
  | 75 => ⟨S1x1x1, .i32⟩
  | 76 => ⟨S64x20x1, .i32⟩
  | 77 => ⟨S64x20x1, .i1⟩
  | 78 => ⟨S64x20x1, .i1⟩
  | 79 => ⟨S_, .i1⟩
  | 80 => ⟨S64x20, .i1⟩
  | 81 => ⟨S64x20x768, .f32⟩
  | 82 => ⟨S64x20x768, .i1⟩
  | 83 => ⟨S_, .f32⟩
  | 84 => ⟨S64x20x768, .f32⟩
  | 85 => ⟨S64x20x768, .f32⟩
  | 86 => ⟨S_, .i32⟩
  | 87 => ⟨S64x20, .i32⟩
  | 88 => ⟨S64x20, .i1⟩
  | 89 => ⟨S_, .i32⟩
  | 90 => ⟨S64x20, .i32⟩
  | 91 => ⟨S64x20, .i32⟩
  | 92 => ⟨S64x20, .i32⟩
  | 93 => ⟨S64x20x1, .i32⟩
  | 94 => ⟨S1, .i32⟩
  | 95 => ⟨S_, .i32⟩
  | 96 => ⟨S64x20x1, .i32⟩
  | 97 => ⟨S64x20x1, .i1⟩
  | 98 => ⟨S1x1x1, .i32⟩
  | 99 => ⟨S64x20x1, .i32⟩
  | 100 => ⟨S64x20x1, .i1⟩
  | 101 => ⟨S64x20x1, .i1⟩
  | 102 => ⟨S_, .i1⟩
  | 103 => ⟨S64x20, .i1⟩
  | 104 => ⟨S64x20, .i32⟩
  | 105 => ⟨S_, .i32⟩
  | 106 => ⟨S64x20, .i32⟩
  | 107 => ⟨S64x20, .i32⟩
  | 108 => ⟨S64x20x1, .i32⟩
  | 109 => ⟨S_, .i32⟩
  | 110 => ⟨S64x20x1, .i32⟩
  | 111 => ⟨S64x20x1, .i1⟩
  | 112 => ⟨S_, .i32⟩
  | 113 => ⟨S64x20x1, .i32⟩
  | 114 => ⟨S64x20x1, .i32⟩
  | 115 => ⟨S64x20x1, .i32⟩
  | 116 => ⟨S1, .i32⟩
  | 117 => ⟨S_, .i32⟩
  | 118 => ⟨S64x20x1, .i32⟩
  | 119 => ⟨S64x20x1, .i1⟩
  | 120 => ⟨S1x1x1, .i32⟩
  | 121 => ⟨S64x20x1, .i32⟩
  | 122 => ⟨S64x20x1, .i1⟩
  | 123 => ⟨S64x20x1, .i1⟩
  | 124 => ⟨S_, .i1⟩
  | 125 => ⟨S64x20, .i1⟩
  | 126 => ⟨S64x20x768, .f32⟩
  | 127 => ⟨S64x20x768, .i1⟩
  | _ => ⟨S64x8192, .f32⟩

abbrev hbmTy0_2 (i : Nat) : BufTy := match i % 128 with
  | 0 => ⟨S_, .f32⟩
  | 1 => ⟨S64x20x768, .f32⟩
  | 2 => ⟨S64x20x768, .f32⟩
  | 3 => ⟨S64x576x768, .f32⟩
  | 4 => ⟨S_, .f32⟩
  | 5 => ⟨S64x576, .f32⟩
  | 6 => ⟨S64x576x1, .f32⟩
  | 7 => ⟨S64x576x768, .f32⟩
  | 8 => ⟨S_, .f32⟩
  | 9 => ⟨S64x576, .f32⟩
  | 10 => ⟨S64x1x576, .f32⟩
  | 11 => ⟨S64x576x576, .f32⟩
  | 12 => ⟨S64x576x576, .f32⟩
  | 13 => ⟨S64x576x576, .f32⟩
  | 14 => ⟨S64x576x576, .f32⟩
  | 15 => ⟨S_, .f32⟩
  | 16 => ⟨S64x576x576, .f32⟩
  | 17 => ⟨S64x576x576, .f32⟩
  | 18 => ⟨S64x576x576, .f32⟩
  | 19 => ⟨S_, .f32⟩
  | 20 => ⟨S64x576x576, .f32⟩
  | 21 => ⟨S64x576x576, .f32⟩
  | 22 => ⟨S64x576x576, .f32⟩
  | 23 => ⟨S_, .f32⟩
  | 24 => ⟨S64x576, .f32⟩
  | 25 => ⟨S64x576x576, .i32⟩
  | 26 => ⟨S64x576x1, .f32⟩
  | 27 => ⟨S64x576x576, .f32⟩
  | 28 => ⟨S64x576x576, .i1⟩
  | 29 => ⟨S_, .i32⟩
  | 30 => ⟨S_, .i32⟩
  | 31 => ⟨S64x576x576, .i32⟩
  | 32 => ⟨S64x576x576, .i32⟩
  | 33 => ⟨S_, .i32⟩
  | 34 => ⟨S64x576, .i32⟩
  | 35 => ⟨S64x576, .i32⟩
  | 36 => ⟨S64x576, .f32⟩
  | 37 => ⟨S64x576, .i32⟩
  | 38 => ⟨S64x4, .i32⟩
  | 39 => ⟨S64x4, .i32⟩
  | 40 => ⟨S64x4x1, .i32⟩
  | 41 => ⟨S_, .i32⟩
  | 42 => ⟨S64x4x1, .i32⟩
  | 43 => ⟨S64x4x1, .i1⟩
  | 44 => ⟨S_, .i32⟩
  | 45 => ⟨S64x4x1, .i32⟩
  | 46 => ⟨S64x4x1, .i32⟩
  | 47 => ⟨S64x4x1, .i32⟩
  | 48 => ⟨S1, .i32⟩
  | 49 => ⟨S_, .i32⟩
  | 50 => ⟨S64x4x1, .i32⟩
  | 51 => ⟨S64x4x1, .i1⟩
  | 52 => ⟨S1x1x1, .i32⟩
  | 53 => ⟨S64x4x1, .i32⟩
  | 54 => ⟨S64x4x1, .i1⟩
  | 55 => ⟨S64x4x1, .i1⟩
  | 56 => ⟨S_, .i1⟩
  | 57 => ⟨S64x4, .i1⟩
  | 58 => ⟨S64x4x768, .f32⟩
  | 59 => ⟨S64x4x768, .i1⟩
  | 60 => ⟨S_, .f32⟩
  | 61 => ⟨S64x4x768, .f32⟩
  | 62 => ⟨S64x4x768, .f32⟩
  | 63 => ⟨S_, .i32⟩
  | 64 => ⟨S64x4, .i32⟩
  | 65 => ⟨S64x4, .i1⟩
  | 66 => ⟨S_, .i32⟩
  | 67 => ⟨S64x4, .i32⟩
  | 68 => ⟨S64x4, .i32⟩
  | 69 => ⟨S64x4, .i32⟩
  | 70 => ⟨S64x4x1, .i32⟩
  | 71 => ⟨S1, .i32⟩
  | 72 => ⟨S_, .i32⟩
  | 73 => ⟨S64x4x1, .i32⟩
  | 74 => ⟨S64x4x1, .i1⟩
  | 75 => ⟨S1x1x1, .i32⟩
  | 76 => ⟨S64x4x1, .i32⟩
  | 77 => ⟨S64x4x1, .i1⟩
  | 78 => ⟨S64x4x1, .i1⟩
  | 79 => ⟨S_, .i1⟩
  | 80 => ⟨S64x4, .i1⟩
  | 81 => ⟨S64x4, .i32⟩
  | 82 => ⟨S_, .i32⟩
  | 83 => ⟨S64x4, .i32⟩
  | 84 => ⟨S64x4, .i32⟩
  | 85 => ⟨S64x4x1, .i32⟩
  | 86 => ⟨S_, .i32⟩
  | 87 => ⟨S64x4x1, .i32⟩
  | 88 => ⟨S64x4x1, .i1⟩
  | 89 => ⟨S_, .i32⟩
  | 90 => ⟨S64x4x1, .i32⟩
  | 91 => ⟨S64x4x1, .i32⟩
  | 92 => ⟨S64x4x1, .i32⟩
  | 93 => ⟨S1, .i32⟩
  | 94 => ⟨S_, .i32⟩
  | 95 => ⟨S64x4x1, .i32⟩
  | 96 => ⟨S64x4x1, .i1⟩
  | 97 => ⟨S1x1x1, .i32⟩
  | 98 => ⟨S64x4x1, .i32⟩
  | 99 => ⟨S64x4x1, .i1⟩
  | 100 => ⟨S64x4x1, .i1⟩
  | 101 => ⟨S_, .i1⟩
  | 102 => ⟨S64x4, .i1⟩
  | 103 => ⟨S64x4x768, .f32⟩
  | 104 => ⟨S64x4x768, .i1⟩
  | 105 => ⟨S_, .f32⟩
  | 106 => ⟨S64x4x768, .f32⟩
  | 107 => ⟨S64x4x768, .f32⟩
  | 108 => ⟨S64x20x768, .f32⟩
  | 109 => ⟨S64x20x768, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S64x4x768, .f32⟩
  | 117 => ⟨S64x4x768, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S64x576x2, .f32⟩
  | 126 => ⟨S_, .f32⟩
  | 127 => ⟨S64x576, .f32⟩
  | _ => ⟨S64x8192, .f32⟩

abbrev hbmTy0_3 (i : Nat) : BufTy := match i % 128 with
  | 0 => ⟨S64x576x1, .f32⟩
  | 1 => ⟨S64x576x2, .f32⟩
  | 2 => ⟨S_, .f32⟩
  | 3 => ⟨S64x576, .f32⟩
  | 4 => ⟨S64x1x576, .f32⟩
  | 5 => ⟨S64x576x576, .f32⟩
  | 6 => ⟨S64x576x576, .f32⟩
  | 7 => ⟨S64x576x576, .f32⟩
  | 8 => ⟨S64x576x576, .f32⟩
  | 9 => ⟨S_, .f32⟩
  | 10 => ⟨S64x576x576, .f32⟩
  | 11 => ⟨S64x576x576, .f32⟩
  | 12 => ⟨S64x576x576, .f32⟩
  | 13 => ⟨S_, .f32⟩
  | 14 => ⟨S64x576x576, .f32⟩
  | 15 => ⟨S64x576x576, .f32⟩
  | 16 => ⟨S64x576x576, .f32⟩
  | 17 => ⟨S_, .f32⟩
  | 18 => ⟨S64x576, .f32⟩
  | 19 => ⟨S64x576x576, .i32⟩
  | 20 => ⟨S64x576x1, .f32⟩
  | 21 => ⟨S64x576x576, .f32⟩
  | 22 => ⟨S64x576x576, .i1⟩
  | 23 => ⟨S_, .i32⟩
  | 24 => ⟨S_, .i32⟩
  | 25 => ⟨S64x576x576, .i32⟩
  | 26 => ⟨S64x576x576, .i32⟩
  | 27 => ⟨S_, .i32⟩
  | 28 => ⟨S64x576, .i32⟩
  | 29 => ⟨S64x576, .i32⟩
  | 30 => ⟨S64x576, .f32⟩
  | 31 => ⟨S64x576, .i32⟩
  | 32 => ⟨S64x20, .i32⟩
  | 33 => ⟨S64x20, .i32⟩
  | 34 => ⟨S64x20x1, .i32⟩
  | 35 => ⟨S_, .i32⟩
  | 36 => ⟨S64x20x1, .i32⟩
  | 37 => ⟨S64x20x1, .i1⟩
  | 38 => ⟨S_, .i32⟩
  | 39 => ⟨S64x20x1, .i32⟩
  | 40 => ⟨S64x20x1, .i32⟩
  | 41 => ⟨S64x20x1, .i32⟩
  | 42 => ⟨S1, .i32⟩
  | 43 => ⟨S_, .i32⟩
  | 44 => ⟨S64x20x1, .i32⟩
  | 45 => ⟨S64x20x1, .i1⟩
  | 46 => ⟨S1x1x1, .i32⟩
  | 47 => ⟨S64x20x1, .i32⟩
  | 48 => ⟨S64x20x1, .i1⟩
  | 49 => ⟨S64x20x1, .i1⟩
  | 50 => ⟨S_, .i1⟩
  | 51 => ⟨S64x20, .i1⟩
  | 52 => ⟨S64x20x768, .f32⟩
  | 53 => ⟨S64x20x768, .i1⟩
  | 54 => ⟨S_, .f32⟩
  | 55 => ⟨S64x20x768, .f32⟩
  | 56 => ⟨S64x20x768, .f32⟩
  | 57 => ⟨S_, .i32⟩
  | 58 => ⟨S64x20, .i32⟩
  | 59 => ⟨S64x20, .i1⟩
  | 60 => ⟨S_, .i32⟩
  | 61 => ⟨S64x20, .i32⟩
  | 62 => ⟨S64x20, .i32⟩
  | 63 => ⟨S64x20, .i32⟩
  | 64 => ⟨S64x20x1, .i32⟩
  | 65 => ⟨S1, .i32⟩
  | 66 => ⟨S_, .i32⟩
  | 67 => ⟨S64x20x1, .i32⟩
  | 68 => ⟨S64x20x1, .i1⟩
  | 69 => ⟨S1x1x1, .i32⟩
  | 70 => ⟨S64x20x1, .i32⟩
  | 71 => ⟨S64x20x1, .i1⟩
  | 72 => ⟨S64x20x1, .i1⟩
  | 73 => ⟨S_, .i1⟩
  | 74 => ⟨S64x20, .i1⟩
  | 75 => ⟨S64x20, .i32⟩
  | 76 => ⟨S_, .i32⟩
  | 77 => ⟨S64x20, .i32⟩
  | 78 => ⟨S64x20, .i32⟩
  | 79 => ⟨S64x20x1, .i32⟩
  | 80 => ⟨S_, .i32⟩
  | 81 => ⟨S64x20x1, .i32⟩
  | 82 => ⟨S64x20x1, .i1⟩
  | 83 => ⟨S_, .i32⟩
  | 84 => ⟨S64x20x1, .i32⟩
  | 85 => ⟨S64x20x1, .i32⟩
  | 86 => ⟨S64x20x1, .i32⟩
  | 87 => ⟨S1, .i32⟩
  | 88 => ⟨S_, .i32⟩
  | 89 => ⟨S64x20x1, .i32⟩
  | 90 => ⟨S64x20x1, .i1⟩
  | 91 => ⟨S1x1x1, .i32⟩
  | 92 => ⟨S64x20x1, .i32⟩
  | 93 => ⟨S64x20x1, .i1⟩
  | 94 => ⟨S64x20x1, .i1⟩
  | 95 => ⟨S_, .i1⟩
  | 96 => ⟨S64x20, .i1⟩
  | 97 => ⟨S64x20x768, .f32⟩
  | 98 => ⟨S64x20x768, .i1⟩
  | 99 => ⟨S_, .f32⟩
  | 100 => ⟨S64x20x768, .f32⟩
  | 101 => ⟨S64x20x768, .f32⟩
  | 102 => ⟨S64x576x2, .f32⟩
  | 103 => ⟨S_, .f32⟩
  | 104 => ⟨S64x576, .f32⟩
  | 105 => ⟨S64x576x1, .f32⟩
  | 106 => ⟨S64x576x2, .f32⟩
  | 107 => ⟨S_, .f32⟩
  | 108 => ⟨S64x576, .f32⟩
  | 109 => ⟨S64x1x576, .f32⟩
  | 110 => ⟨S64x576x576, .f32⟩
  | 111 => ⟨S64x576x576, .f32⟩
  | 112 => ⟨S64x576x576, .f32⟩
  | 113 => ⟨S64x576x576, .f32⟩
  | 114 => ⟨S_, .f32⟩
  | 115 => ⟨S64x576x576, .f32⟩
  | 116 => ⟨S64x576x576, .f32⟩
  | 117 => ⟨S64x576x576, .f32⟩
  | 118 => ⟨S_, .f32⟩
  | 119 => ⟨S64x576x576, .f32⟩
  | 120 => ⟨S64x576x576, .f32⟩
  | 121 => ⟨S64x576x576, .f32⟩
  | 122 => ⟨S_, .f32⟩
  | 123 => ⟨S64x576, .f32⟩
  | 124 => ⟨S64x576x576, .i32⟩
  | 125 => ⟨S64x576x1, .f32⟩
  | 126 => ⟨S64x576x576, .f32⟩
  | 127 => ⟨S64x576x576, .i1⟩
  | _ => ⟨S64x8192, .f32⟩

abbrev hbmTy0_4 (i : Nat) : BufTy := match i % 128 with
  | 0 => ⟨S_, .i32⟩
  | 1 => ⟨S_, .i32⟩
  | 2 => ⟨S64x576x576, .i32⟩
  | 3 => ⟨S64x576x576, .i32⟩
  | 4 => ⟨S_, .i32⟩
  | 5 => ⟨S64x576, .i32⟩
  | 6 => ⟨S64x576, .i32⟩
  | 7 => ⟨S64x576, .f32⟩
  | 8 => ⟨S64x576, .i32⟩
  | 9 => ⟨S64x4, .i32⟩
  | 10 => ⟨S64x4, .i32⟩
  | 11 => ⟨S64x4x1, .i32⟩
  | 12 => ⟨S_, .i32⟩
  | 13 => ⟨S64x4x1, .i32⟩
  | 14 => ⟨S64x4x1, .i1⟩
  | 15 => ⟨S_, .i32⟩
  | 16 => ⟨S64x4x1, .i32⟩
  | 17 => ⟨S64x4x1, .i32⟩
  | 18 => ⟨S64x4x1, .i32⟩
  | 19 => ⟨S1, .i32⟩
  | 20 => ⟨S_, .i32⟩
  | 21 => ⟨S64x4x1, .i32⟩
  | 22 => ⟨S64x4x1, .i1⟩
  | 23 => ⟨S1x1x1, .i32⟩
  | 24 => ⟨S64x4x1, .i32⟩
  | 25 => ⟨S64x4x1, .i1⟩
  | 26 => ⟨S64x4x1, .i1⟩
  | 27 => ⟨S_, .i1⟩
  | 28 => ⟨S64x4, .i1⟩
  | 29 => ⟨S64x4x768, .f32⟩
  | 30 => ⟨S64x4x768, .i1⟩
  | 31 => ⟨S_, .f32⟩
  | 32 => ⟨S64x4x768, .f32⟩
  | 33 => ⟨S64x4x768, .f32⟩
  | 34 => ⟨S_, .i32⟩
  | 35 => ⟨S64x4, .i32⟩
  | 36 => ⟨S64x4, .i1⟩
  | 37 => ⟨S_, .i32⟩
  | 38 => ⟨S64x4, .i32⟩
  | 39 => ⟨S64x4, .i32⟩
  | 40 => ⟨S64x4, .i32⟩
  | 41 => ⟨S64x4x1, .i32⟩
  | 42 => ⟨S1, .i32⟩
  | 43 => ⟨S_, .i32⟩
  | 44 => ⟨S64x4x1, .i32⟩
  | 45 => ⟨S64x4x1, .i1⟩
  | 46 => ⟨S1x1x1, .i32⟩
  | 47 => ⟨S64x4x1, .i32⟩
  | 48 => ⟨S64x4x1, .i1⟩
  | 49 => ⟨S64x4x1, .i1⟩
  | 50 => ⟨S_, .i1⟩
  | 51 => ⟨S64x4, .i1⟩
  | 52 => ⟨S64x4, .i32⟩
  | 53 => ⟨S_, .i32⟩
  | 54 => ⟨S64x4, .i32⟩
  | 55 => ⟨S64x4, .i32⟩
  | 56 => ⟨S64x4x1, .i32⟩
  | 57 => ⟨S_, .i32⟩
  | 58 => ⟨S64x4x1, .i32⟩
  | 59 => ⟨S64x4x1, .i1⟩
  | 60 => ⟨S_, .i32⟩
  | 61 => ⟨S64x4x1, .i32⟩
  | 62 => ⟨S64x4x1, .i32⟩
  | 63 => ⟨S64x4x1, .i32⟩
  | 64 => ⟨S1, .i32⟩
  | 65 => ⟨S_, .i32⟩
  | 66 => ⟨S64x4x1, .i32⟩
  | 67 => ⟨S64x4x1, .i1⟩
  | 68 => ⟨S1x1x1, .i32⟩
  | 69 => ⟨S64x4x1, .i32⟩
  | 70 => ⟨S64x4x1, .i1⟩
  | 71 => ⟨S64x4x1, .i1⟩
  | 72 => ⟨S_, .i1⟩
  | 73 => ⟨S64x4, .i1⟩
  | 74 => ⟨S64x4x768, .f32⟩
  | 75 => ⟨S64x4x768, .i1⟩
  | 76 => ⟨S_, .f32⟩
  | 77 => ⟨S64x4x768, .f32⟩
  | 78 => ⟨S64x4x768, .f32⟩
  | 79 => ⟨S64x20x768, .f32⟩
  | 80 => ⟨S64x20x768, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S64x4x768, .f32⟩
  | 89 => ⟨S64x4x768, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | _ => ⟨S64x8192, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S64x8192, .f32⟩

abbrev bufTy : (tb : Table) → Fin (tcTables nBuf tb) → BufTy
  | .hbm, ⟨i, _⟩ => hbmTy i
  | _, _ => ⟨S64x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_c : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_cst_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_cst_1 : Ref sig .tc := ⟨.hbm, 23, rfl⟩
abbrev main_call0_v8 : Ref sig .tc := ⟨.hbm, 24, rfl⟩
abbrev main_call0_cst_2 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_cst_3 : Ref sig .tc := ⟨.hbm, 29, rfl⟩
abbrev main_call0_v12 : Ref sig .tc := ⟨.hbm, 30, rfl⟩
abbrev main_call0_cst_4 : Ref sig .tc := ⟨.hbm, 31, rfl⟩
abbrev main_call0_call0_v0 : Ref sig .tc := ⟨.hbm, 32, rfl⟩
abbrev main_call0_call0_v1 : Ref sig .tc := ⟨.hbm, 33, rfl⟩
abbrev main_v4 : Ref sig .tc := ⟨.hbm, 34, rfl⟩
abbrev main_cst_1 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_cst_2 : Ref sig .tc := ⟨.hbm, 39, rfl⟩
abbrev main_v8 : Ref sig .tc := ⟨.hbm, 40, rfl⟩
abbrev main_v9 : Ref sig .tc := ⟨.hbm, 41, rfl⟩
abbrev main_call1_cst : Ref sig .tc := ⟨.hbm, 42, rfl⟩
abbrev main_call1_v0 : Ref sig .tc := ⟨.hbm, 43, rfl⟩
abbrev main_v10 : Ref sig .tc := ⟨.hbm, 44, rfl⟩
abbrev main_cst_3 : Ref sig .tc := ⟨.hbm, 45, rfl⟩
abbrev main_v11 : Ref sig .tc := ⟨.hbm, 46, rfl⟩
abbrev main_cst_4 : Ref sig .tc := ⟨.hbm, 47, rfl⟩
abbrev main_v12 : Ref sig .tc := ⟨.hbm, 48, rfl⟩
abbrev main_c_5 : Ref sig .tc := ⟨.hbm, 49, rfl⟩
abbrev main_call2_cst : Ref sig .tc := ⟨.hbm, 50, rfl⟩
abbrev main_call2_v0 : Ref sig .tc := ⟨.hbm, 51, rfl⟩
abbrev main_call2_v1 : Ref sig .tc := ⟨.hbm, 52, rfl⟩
abbrev main_call2_cst_0 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_call2_v5 : Ref sig .tc := ⟨.hbm, 57, rfl⟩
abbrev main_call2_v6 : Ref sig .tc := ⟨.hbm, 58, rfl⟩
abbrev main_call2_v7 : Ref sig .tc := ⟨.hbm, 59, rfl⟩
abbrev main_call2_cst_1 : Ref sig .tc := ⟨.hbm, 60, rfl⟩
abbrev main_call2_v8 : Ref sig .tc := ⟨.hbm, 61, rfl⟩
abbrev main_call2_cst_2 : Ref sig .tc := ⟨.hbm, 62, rfl⟩
abbrev main_call2_v9 : Ref sig .tc := ⟨.hbm, 63, rfl⟩
abbrev main_call2_v10 : Ref sig .tc := ⟨.hbm, 64, rfl⟩
abbrev main_call2_v11 : Ref sig .tc := ⟨.hbm, 65, rfl⟩
abbrev main_call2_cst_3 : Ref sig .tc := ⟨.hbm, 66, rfl⟩
abbrev main_call2_v12 : Ref sig .tc := ⟨.hbm, 67, rfl⟩
abbrev main_call2_cst_4 : Ref sig .tc := ⟨.hbm, 68, rfl⟩
abbrev main_call2_call0_v0 : Ref sig .tc := ⟨.hbm, 69, rfl⟩
abbrev main_call2_call0_v1 : Ref sig .tc := ⟨.hbm, 70, rfl⟩
abbrev main_v13 : Ref sig .tc := ⟨.hbm, 71, rfl⟩
abbrev main_cst_6 : Ref sig .tc := ⟨.hbm, 72, rfl⟩
abbrev main_v14 : Ref sig .tc := ⟨.hbm, 73, rfl⟩
abbrev main_v15 : Ref sig .tc := ⟨.hbm, 74, rfl⟩
abbrev main_v16 : Ref sig .tc := ⟨.hbm, 75, rfl⟩
abbrev main_cst_7 : Ref sig .tc := ⟨.hbm, 76, rfl⟩
abbrev main_v17 : Ref sig .tc := ⟨.hbm, 77, rfl⟩
abbrev main_v18 : Ref sig .tc := ⟨.hbm, 78, rfl⟩
abbrev main_call3_cst : Ref sig .tc := ⟨.hbm, 79, rfl⟩
abbrev main_call3_v0 : Ref sig .tc := ⟨.hbm, 80, rfl⟩
abbrev main_v19 : Ref sig .tc := ⟨.hbm, 81, rfl⟩
abbrev main_cst_8 : Ref sig .tc := ⟨.hbm, 82, rfl⟩
abbrev main_v20 : Ref sig .tc := ⟨.hbm, 83, rfl⟩
abbrev main_cst_9 : Ref sig .tc := ⟨.hbm, 84, rfl⟩
abbrev main_v21 : Ref sig .tc := ⟨.hbm, 85, rfl⟩
abbrev main_v22 : Ref sig .tc := ⟨.hbm, 86, rfl⟩
abbrev main_cst_10 : Ref sig .tc := ⟨.hbm, 87, rfl⟩
abbrev main_v23 : Ref sig .tc := ⟨.hbm, 88, rfl⟩
abbrev main_cst_11 : Ref sig .tc := ⟨.hbm, 89, rfl⟩
abbrev main_v24 : Ref sig .tc := ⟨.hbm, 90, rfl⟩
abbrev main_cst_12 : Ref sig .tc := ⟨.hbm, 91, rfl⟩
abbrev main_v25 : Ref sig .tc := ⟨.hbm, 92, rfl⟩
abbrev main_v26 : Ref sig .tc := ⟨.hbm, 93, rfl⟩
abbrev main_v27 : Ref sig .tc := ⟨.hbm, 94, rfl⟩
abbrev main_v28 : Ref sig .tc := ⟨.hbm, 95, rfl⟩
abbrev main_v29 : Ref sig .tc := ⟨.hbm, 96, rfl⟩
abbrev main_v30 : Ref sig .tc := ⟨.hbm, 97, rfl⟩
abbrev main_v31 : Ref sig .tc := ⟨.hbm, 98, rfl⟩
abbrev main_cst_13 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_v35 : Ref sig .tc := ⟨.hbm, 103, rfl⟩
abbrev main_v36 : Ref sig .tc := ⟨.hbm, 104, rfl⟩
abbrev main_cst_14 : Ref sig .tc := ⟨.hbm, 105, rfl⟩
abbrev main_call4_v0 : Ref sig .tc := ⟨.hbm, 106, rfl⟩
abbrev main_call4_v1 : Ref sig .tc := ⟨.hbm, 107, rfl⟩
abbrev main_v37 : Ref sig .tc := ⟨.hbm, 108, rfl⟩
abbrev main_v38 : Ref sig .tc := ⟨.hbm, 109, rfl⟩
abbrev main_v39 : Ref sig .tc := ⟨.hbm, 110, rfl⟩
abbrev main_cst_15 : Ref sig .tc := ⟨.hbm, 111, rfl⟩
abbrev main_v40 : Ref sig .tc := ⟨.hbm, 112, rfl⟩
abbrev main_cst_16 : Ref sig .tc := ⟨.hbm, 113, rfl⟩
abbrev main_v41 : Ref sig .tc := ⟨.hbm, 114, rfl⟩
abbrev main_cst_17 : Ref sig .tc := ⟨.hbm, 115, rfl⟩
abbrev main_v42 : Ref sig .tc := ⟨.hbm, 116, rfl⟩
abbrev main_cst_18 : Ref sig .tc := ⟨.hbm, 117, rfl⟩
abbrev main_v43 : Ref sig .tc := ⟨.hbm, 118, rfl⟩
abbrev main_v44 : Ref sig .tc := ⟨.hbm, 119, rfl⟩
abbrev main_v45 : Ref sig .tc := ⟨.hbm, 120, rfl⟩
abbrev main_v46 : Ref sig .tc := ⟨.hbm, 121, rfl⟩
abbrev main_v47 : Ref sig .tc := ⟨.hbm, 122, rfl⟩
abbrev main_v48 : Ref sig .tc := ⟨.hbm, 123, rfl⟩
abbrev main_v49 : Ref sig .tc := ⟨.hbm, 124, rfl⟩
abbrev main_cst_19 : Ref sig .tc := ⟨.hbm, 125, rfl⟩
abbrev main_v50 : Ref sig .tc := ⟨.hbm, 126, rfl⟩
abbrev main_v51 : Ref sig .tc := ⟨.hbm, 127, rfl⟩
abbrev main_v52 : Ref sig .tc := ⟨.hbm, 128, rfl⟩
abbrev main_v53 : Ref sig .tc := ⟨.hbm, 129, rfl⟩
abbrev main_v54 : Ref sig .tc := ⟨.hbm, 130, rfl⟩
abbrev main_cst_20 : Ref sig .tc := ⟨.hbm, 131, rfl⟩
abbrev main_call5_v0 : Ref sig .tc := ⟨.hbm, 132, rfl⟩
abbrev main_call5_v1 : Ref sig .tc := ⟨.hbm, 133, rfl⟩
abbrev main_v55 : Ref sig .tc := ⟨.hbm, 134, rfl⟩
abbrev main_v56 : Ref sig .tc := ⟨.hbm, 135, rfl⟩
abbrev main_v57 : Ref sig .tc := ⟨.hbm, 136, rfl⟩
abbrev main_cst_21 : Ref sig .tc := ⟨.hbm, 137, rfl⟩
abbrev main_v58 : Ref sig .tc := ⟨.hbm, 138, rfl⟩
abbrev main_cst_22 : Ref sig .tc := ⟨.hbm, 139, rfl⟩
abbrev main_v59 : Ref sig .tc := ⟨.hbm, 140, rfl⟩
abbrev main_v60 : Ref sig .tc := ⟨.hbm, 141, rfl⟩
abbrev main_cst_23 : Ref sig .tc := ⟨.hbm, 142, rfl⟩
abbrev main_v61 : Ref sig .tc := ⟨.hbm, 143, rfl⟩
abbrev main_cst_24 : Ref sig .tc := ⟨.hbm, 144, rfl⟩
abbrev main_v62 : Ref sig .tc := ⟨.hbm, 145, rfl⟩
abbrev main_v63 : Ref sig .tc := ⟨.hbm, 146, rfl⟩
abbrev main_cst_25 : Ref sig .tc := ⟨.hbm, 147, rfl⟩
abbrev main_v64 : Ref sig .tc := ⟨.hbm, 148, rfl⟩
abbrev main_v65 : Ref sig .tc := ⟨.hbm, 149, rfl⟩
abbrev main_v66 : Ref sig .tc := ⟨.hbm, 150, rfl⟩
abbrev main_v67 : Ref sig .tc := ⟨.hbm, 151, rfl⟩
abbrev main_v68 : Ref sig .tc := ⟨.hbm, 152, rfl⟩
abbrev main_v69 : Ref sig .tc := ⟨.hbm, 153, rfl⟩
abbrev main_v70 : Ref sig .tc := ⟨.hbm, 154, rfl⟩
abbrev main_cst_26 : Ref sig .tc := ⟨.hbm, 155, rfl⟩
abbrev main_v71 : Ref sig .tc := ⟨.hbm, 156, rfl⟩
abbrev main_v72 : Ref sig .tc := ⟨.hbm, 157, rfl⟩
abbrev main_v73 : Ref sig .tc := ⟨.hbm, 158, rfl⟩
abbrev main_cst_27 : Ref sig .tc := ⟨.hbm, 159, rfl⟩
abbrev main_v74 : Ref sig .tc := ⟨.hbm, 160, rfl⟩
abbrev main_v75 : Ref sig .tc := ⟨.hbm, 161, rfl⟩
abbrev main_v76 : Ref sig .tc := ⟨.hbm, 162, rfl⟩
abbrev main_v77 : Ref sig .tc := ⟨.hbm, 163, rfl⟩
abbrev main_v78 : Ref sig .tc := ⟨.hbm, 164, rfl⟩
abbrev main_v79 : Ref sig .tc := ⟨.hbm, 165, rfl⟩
abbrev main_cst_28 : Ref sig .tc := ⟨.hbm, 166, rfl⟩
abbrev main_v80 : Ref sig .tc := ⟨.hbm, 167, rfl⟩
abbrev main_v81 : Ref sig .tc := ⟨.hbm, 168, rfl⟩
abbrev main_v82 : Ref sig .tc := ⟨.hbm, 169, rfl⟩
abbrev main_cst_29 : Ref sig .tc := ⟨.hbm, 170, rfl⟩
abbrev main_v83 : Ref sig .tc := ⟨.hbm, 171, rfl⟩
abbrev main_v84 : Ref sig .tc := ⟨.hbm, 172, rfl⟩
abbrev main_v85 : Ref sig .tc := ⟨.hbm, 173, rfl⟩
abbrev main_cst_30 : Ref sig .tc := ⟨.hbm, 174, rfl⟩
abbrev main_v86 : Ref sig .tc := ⟨.hbm, 175, rfl⟩
abbrev main_v87 : Ref sig .tc := ⟨.hbm, 176, rfl⟩
abbrev main_v88 : Ref sig .tc := ⟨.hbm, 177, rfl⟩
abbrev main_v89 : Ref sig .tc := ⟨.hbm, 178, rfl⟩
abbrev main_v90 : Ref sig .tc := ⟨.hbm, 179, rfl⟩
abbrev main_c_31 : Ref sig .tc := ⟨.hbm, 180, rfl⟩
abbrev main_call6_v0 : Ref sig .tc := ⟨.hbm, 181, rfl⟩
abbrev main_call6_v1 : Ref sig .tc := ⟨.hbm, 182, rfl⟩
abbrev main_v91 : Ref sig .tc := ⟨.hbm, 183, rfl⟩
abbrev main_c_32 : Ref sig .tc := ⟨.hbm, 184, rfl⟩
abbrev main_v92 : Ref sig .tc := ⟨.hbm, 185, rfl⟩
abbrev main_call7_v0 : Ref sig .tc := ⟨.hbm, 186, rfl⟩
abbrev main_call7_v1_0 : Ref sig .tc := ⟨.hbm, 187, rfl⟩
abbrev main_v93 : Ref sig .tc := ⟨.hbm, 188, rfl⟩
abbrev main_v94 : Ref sig .tc := ⟨.hbm, 189, rfl⟩
abbrev main_v95 : Ref sig .tc := ⟨.hbm, 190, rfl⟩
abbrev main_v96 : Ref sig .tc := ⟨.hbm, 191, rfl⟩
abbrev main_call9_c : Ref sig .tc := ⟨.hbm, 192, rfl⟩
abbrev main_call9_v0 : Ref sig .tc := ⟨.hbm, 193, rfl⟩
abbrev main_call9_v1 : Ref sig .tc := ⟨.hbm, 194, rfl⟩
abbrev main_call9_c_0 : Ref sig .tc := ⟨.hbm, 195, rfl⟩
abbrev main_call9_v2 : Ref sig .tc := ⟨.hbm, 196, rfl⟩
abbrev main_call9_v3 : Ref sig .tc := ⟨.hbm, 197, rfl⟩
abbrev main_call9_v4 : Ref sig .tc := ⟨.hbm, 198, rfl⟩
abbrev main_call9_c_1 : Ref sig .tc := ⟨.hbm, 199, rfl⟩
abbrev main_call9_c_2 : Ref sig .tc := ⟨.hbm, 200, rfl⟩
abbrev main_call9_v5 : Ref sig .tc := ⟨.hbm, 201, rfl⟩
abbrev main_call9_v6 : Ref sig .tc := ⟨.hbm, 202, rfl⟩
abbrev main_call9_v7 : Ref sig .tc := ⟨.hbm, 203, rfl⟩
abbrev main_call9_v8 : Ref sig .tc := ⟨.hbm, 204, rfl⟩
abbrev main_call9_v9 : Ref sig .tc := ⟨.hbm, 205, rfl⟩
abbrev main_call9_v10 : Ref sig .tc := ⟨.hbm, 206, rfl⟩
abbrev main_call9_c_3 : Ref sig .tc := ⟨.hbm, 207, rfl⟩
abbrev main_call9_v11 : Ref sig .tc := ⟨.hbm, 208, rfl⟩
abbrev main_call9_v12 : Ref sig .tc := ⟨.hbm, 209, rfl⟩
abbrev main_call9_v13 : Ref sig .tc := ⟨.hbm, 210, rfl⟩
abbrev main_call9_cst : Ref sig .tc := ⟨.hbm, 211, rfl⟩
abbrev main_call9_v14 : Ref sig .tc := ⟨.hbm, 212, rfl⟩
abbrev main_v97 : Ref sig .tc := ⟨.hbm, 213, rfl⟩
abbrev main_call10_c : Ref sig .tc := ⟨.hbm, 214, rfl⟩
abbrev main_call10_v0 : Ref sig .tc := ⟨.hbm, 215, rfl⟩
abbrev main_call10_v1 : Ref sig .tc := ⟨.hbm, 216, rfl⟩
abbrev main_call10_c_0 : Ref sig .tc := ⟨.hbm, 217, rfl⟩
abbrev main_call10_v2 : Ref sig .tc := ⟨.hbm, 218, rfl⟩
abbrev main_call10_v3 : Ref sig .tc := ⟨.hbm, 219, rfl⟩
abbrev main_call10_v4 : Ref sig .tc := ⟨.hbm, 220, rfl⟩
abbrev main_call10_v5 : Ref sig .tc := ⟨.hbm, 221, rfl⟩
abbrev main_call10_c_1 : Ref sig .tc := ⟨.hbm, 222, rfl⟩
abbrev main_call10_c_2 : Ref sig .tc := ⟨.hbm, 223, rfl⟩
abbrev main_call10_v6 : Ref sig .tc := ⟨.hbm, 224, rfl⟩
abbrev main_call10_v7 : Ref sig .tc := ⟨.hbm, 225, rfl⟩
abbrev main_call10_v8 : Ref sig .tc := ⟨.hbm, 226, rfl⟩
abbrev main_call10_v9 : Ref sig .tc := ⟨.hbm, 227, rfl⟩
abbrev main_call10_v10 : Ref sig .tc := ⟨.hbm, 228, rfl⟩
abbrev main_call10_v11 : Ref sig .tc := ⟨.hbm, 229, rfl⟩
abbrev main_call10_c_3 : Ref sig .tc := ⟨.hbm, 230, rfl⟩
abbrev main_call10_v12 : Ref sig .tc := ⟨.hbm, 231, rfl⟩
abbrev main_call10_v13 : Ref sig .tc := ⟨.hbm, 232, rfl⟩
abbrev main_call10_c_4 : Ref sig .tc := ⟨.hbm, 233, rfl⟩
abbrev main_call10_v14 : Ref sig .tc := ⟨.hbm, 234, rfl⟩
abbrev main_v98 : Ref sig .tc := ⟨.hbm, 235, rfl⟩
abbrev main_v99 : Ref sig .tc := ⟨.hbm, 236, rfl⟩
abbrev main_call11_c : Ref sig .tc := ⟨.hbm, 237, rfl⟩
abbrev main_call11_v0 : Ref sig .tc := ⟨.hbm, 238, rfl⟩
abbrev main_call11_v1 : Ref sig .tc := ⟨.hbm, 239, rfl⟩
abbrev main_call11_c_0 : Ref sig .tc := ⟨.hbm, 240, rfl⟩
abbrev main_call11_v2 : Ref sig .tc := ⟨.hbm, 241, rfl⟩
abbrev main_call11_v3 : Ref sig .tc := ⟨.hbm, 242, rfl⟩
abbrev main_call11_v4 : Ref sig .tc := ⟨.hbm, 243, rfl⟩
abbrev main_call11_c_1 : Ref sig .tc := ⟨.hbm, 244, rfl⟩
abbrev main_call11_c_2 : Ref sig .tc := ⟨.hbm, 245, rfl⟩
abbrev main_call11_v5 : Ref sig .tc := ⟨.hbm, 246, rfl⟩
abbrev main_call11_v6 : Ref sig .tc := ⟨.hbm, 247, rfl⟩
abbrev main_call11_v7 : Ref sig .tc := ⟨.hbm, 248, rfl⟩
abbrev main_call11_v8 : Ref sig .tc := ⟨.hbm, 249, rfl⟩
abbrev main_call11_v9 : Ref sig .tc := ⟨.hbm, 250, rfl⟩
abbrev main_call11_v10 : Ref sig .tc := ⟨.hbm, 251, rfl⟩
abbrev main_call11_c_3 : Ref sig .tc := ⟨.hbm, 252, rfl⟩
abbrev main_call11_v11 : Ref sig .tc := ⟨.hbm, 253, rfl⟩
abbrev main_call11_v12 : Ref sig .tc := ⟨.hbm, 254, rfl⟩
abbrev main_call11_v13 : Ref sig .tc := ⟨.hbm, 255, rfl⟩
abbrev main_call11_cst : Ref sig .tc := ⟨.hbm, 256, rfl⟩
abbrev main_call11_v14 : Ref sig .tc := ⟨.hbm, 257, rfl⟩
abbrev main_v100 : Ref sig .tc := ⟨.hbm, 258, rfl⟩
abbrev main_v101 : Ref sig .tc := ⟨.hbm, 259, rfl⟩
abbrev main_cst_33 : Ref sig .tc := ⟨.hbm, 260, rfl⟩
abbrev main_v102 : Ref sig .tc := ⟨.hbm, 261, rfl⟩
abbrev main_v103 : Ref sig .tc := ⟨.hbm, 262, rfl⟩
abbrev main_v104 : Ref sig .tc := ⟨.hbm, 263, rfl⟩
abbrev main_cst_34 : Ref sig .tc := ⟨.hbm, 264, rfl⟩
abbrev main_v105 : Ref sig .tc := ⟨.hbm, 265, rfl⟩
abbrev main_v106 : Ref sig .tc := ⟨.hbm, 266, rfl⟩
abbrev main_v107 : Ref sig .tc := ⟨.hbm, 267, rfl⟩
abbrev main_v108 : Ref sig .tc := ⟨.hbm, 268, rfl⟩
abbrev main_v109 : Ref sig .tc := ⟨.hbm, 269, rfl⟩
abbrev main_v110 : Ref sig .tc := ⟨.hbm, 270, rfl⟩
abbrev main_cst_35 : Ref sig .tc := ⟨.hbm, 271, rfl⟩
abbrev main_v111 : Ref sig .tc := ⟨.hbm, 272, rfl⟩
abbrev main_v112 : Ref sig .tc := ⟨.hbm, 273, rfl⟩
abbrev main_v113 : Ref sig .tc := ⟨.hbm, 274, rfl⟩
abbrev main_cst_36 : Ref sig .tc := ⟨.hbm, 275, rfl⟩
abbrev main_v114 : Ref sig .tc := ⟨.hbm, 276, rfl⟩
abbrev main_v115 : Ref sig .tc := ⟨.hbm, 277, rfl⟩
abbrev main_v116 : Ref sig .tc := ⟨.hbm, 278, rfl⟩
abbrev main_cst_37 : Ref sig .tc := ⟨.hbm, 279, rfl⟩
abbrev main_v117 : Ref sig .tc := ⟨.hbm, 280, rfl⟩
abbrev main_v118 : Ref sig .tc := ⟨.hbm, 281, rfl⟩
abbrev main_v119 : Ref sig .tc := ⟨.hbm, 282, rfl⟩
abbrev main_v120 : Ref sig .tc := ⟨.hbm, 283, rfl⟩
abbrev main_v121 : Ref sig .tc := ⟨.hbm, 284, rfl⟩
abbrev main_c_38 : Ref sig .tc := ⟨.hbm, 285, rfl⟩
abbrev main_call12_v0 : Ref sig .tc := ⟨.hbm, 286, rfl⟩
abbrev main_call12_v1 : Ref sig .tc := ⟨.hbm, 287, rfl⟩
abbrev main_v122 : Ref sig .tc := ⟨.hbm, 288, rfl⟩
abbrev main_c_39 : Ref sig .tc := ⟨.hbm, 289, rfl⟩
abbrev main_v123 : Ref sig .tc := ⟨.hbm, 290, rfl⟩
abbrev main_call13_v0 : Ref sig .tc := ⟨.hbm, 291, rfl⟩
abbrev main_call13_v1_0 : Ref sig .tc := ⟨.hbm, 292, rfl⟩
abbrev main_v124 : Ref sig .tc := ⟨.hbm, 293, rfl⟩
abbrev main_v125 : Ref sig .tc := ⟨.hbm, 294, rfl⟩
abbrev main_v126 : Ref sig .tc := ⟨.hbm, 295, rfl⟩
abbrev main_v127 : Ref sig .tc := ⟨.hbm, 296, rfl⟩
abbrev main_call15_c : Ref sig .tc := ⟨.hbm, 297, rfl⟩
abbrev main_call15_v0 : Ref sig .tc := ⟨.hbm, 298, rfl⟩
abbrev main_call15_v1 : Ref sig .tc := ⟨.hbm, 299, rfl⟩
abbrev main_call15_c_0 : Ref sig .tc := ⟨.hbm, 300, rfl⟩
abbrev main_call15_v2 : Ref sig .tc := ⟨.hbm, 301, rfl⟩
abbrev main_call15_v3 : Ref sig .tc := ⟨.hbm, 302, rfl⟩
abbrev main_call15_v4 : Ref sig .tc := ⟨.hbm, 303, rfl⟩
abbrev main_call15_c_1 : Ref sig .tc := ⟨.hbm, 304, rfl⟩
abbrev main_call15_c_2 : Ref sig .tc := ⟨.hbm, 305, rfl⟩
abbrev main_call15_v5 : Ref sig .tc := ⟨.hbm, 306, rfl⟩
abbrev main_call15_v6 : Ref sig .tc := ⟨.hbm, 307, rfl⟩
abbrev main_call15_v7 : Ref sig .tc := ⟨.hbm, 308, rfl⟩
abbrev main_call15_v8 : Ref sig .tc := ⟨.hbm, 309, rfl⟩
abbrev main_call15_v9 : Ref sig .tc := ⟨.hbm, 310, rfl⟩
abbrev main_call15_v10 : Ref sig .tc := ⟨.hbm, 311, rfl⟩
abbrev main_call15_c_3 : Ref sig .tc := ⟨.hbm, 312, rfl⟩
abbrev main_call15_v11 : Ref sig .tc := ⟨.hbm, 313, rfl⟩
abbrev main_call15_v12 : Ref sig .tc := ⟨.hbm, 314, rfl⟩
abbrev main_call15_v13 : Ref sig .tc := ⟨.hbm, 315, rfl⟩
abbrev main_call15_cst : Ref sig .tc := ⟨.hbm, 316, rfl⟩
abbrev main_call15_v14 : Ref sig .tc := ⟨.hbm, 317, rfl⟩
abbrev main_v128 : Ref sig .tc := ⟨.hbm, 318, rfl⟩
abbrev main_call16_c : Ref sig .tc := ⟨.hbm, 319, rfl⟩
abbrev main_call16_v0 : Ref sig .tc := ⟨.hbm, 320, rfl⟩
abbrev main_call16_v1 : Ref sig .tc := ⟨.hbm, 321, rfl⟩
abbrev main_call16_c_0 : Ref sig .tc := ⟨.hbm, 322, rfl⟩
abbrev main_call16_v2 : Ref sig .tc := ⟨.hbm, 323, rfl⟩
abbrev main_call16_v3 : Ref sig .tc := ⟨.hbm, 324, rfl⟩
abbrev main_call16_v4 : Ref sig .tc := ⟨.hbm, 325, rfl⟩
abbrev main_call16_v5 : Ref sig .tc := ⟨.hbm, 326, rfl⟩
abbrev main_call16_c_1 : Ref sig .tc := ⟨.hbm, 327, rfl⟩
abbrev main_call16_c_2 : Ref sig .tc := ⟨.hbm, 328, rfl⟩
abbrev main_call16_v6 : Ref sig .tc := ⟨.hbm, 329, rfl⟩
abbrev main_call16_v7 : Ref sig .tc := ⟨.hbm, 330, rfl⟩
abbrev main_call16_v8 : Ref sig .tc := ⟨.hbm, 331, rfl⟩
abbrev main_call16_v9 : Ref sig .tc := ⟨.hbm, 332, rfl⟩
abbrev main_call16_v10 : Ref sig .tc := ⟨.hbm, 333, rfl⟩
abbrev main_call16_v11 : Ref sig .tc := ⟨.hbm, 334, rfl⟩
abbrev main_call16_c_3 : Ref sig .tc := ⟨.hbm, 335, rfl⟩
abbrev main_call16_v12 : Ref sig .tc := ⟨.hbm, 336, rfl⟩
abbrev main_call16_v13 : Ref sig .tc := ⟨.hbm, 337, rfl⟩
abbrev main_call16_c_4 : Ref sig .tc := ⟨.hbm, 338, rfl⟩
abbrev main_call16_v14 : Ref sig .tc := ⟨.hbm, 339, rfl⟩
abbrev main_v129 : Ref sig .tc := ⟨.hbm, 340, rfl⟩
abbrev main_v130 : Ref sig .tc := ⟨.hbm, 341, rfl⟩
abbrev main_call17_c : Ref sig .tc := ⟨.hbm, 342, rfl⟩
abbrev main_call17_v0 : Ref sig .tc := ⟨.hbm, 343, rfl⟩
abbrev main_call17_v1 : Ref sig .tc := ⟨.hbm, 344, rfl⟩
abbrev main_call17_c_0 : Ref sig .tc := ⟨.hbm, 345, rfl⟩
abbrev main_call17_v2 : Ref sig .tc := ⟨.hbm, 346, rfl⟩
abbrev main_call17_v3 : Ref sig .tc := ⟨.hbm, 347, rfl⟩
abbrev main_call17_v4 : Ref sig .tc := ⟨.hbm, 348, rfl⟩
abbrev main_call17_c_1 : Ref sig .tc := ⟨.hbm, 349, rfl⟩
abbrev main_call17_c_2 : Ref sig .tc := ⟨.hbm, 350, rfl⟩
abbrev main_call17_v5 : Ref sig .tc := ⟨.hbm, 351, rfl⟩
abbrev main_call17_v6 : Ref sig .tc := ⟨.hbm, 352, rfl⟩
abbrev main_call17_v7 : Ref sig .tc := ⟨.hbm, 353, rfl⟩
abbrev main_call17_v8 : Ref sig .tc := ⟨.hbm, 354, rfl⟩
abbrev main_call17_v9 : Ref sig .tc := ⟨.hbm, 355, rfl⟩
abbrev main_call17_v10 : Ref sig .tc := ⟨.hbm, 356, rfl⟩
abbrev main_call17_c_3 : Ref sig .tc := ⟨.hbm, 357, rfl⟩
abbrev main_call17_v11 : Ref sig .tc := ⟨.hbm, 358, rfl⟩
abbrev main_call17_v12 : Ref sig .tc := ⟨.hbm, 359, rfl⟩
abbrev main_call17_v13 : Ref sig .tc := ⟨.hbm, 360, rfl⟩
abbrev main_call17_cst : Ref sig .tc := ⟨.hbm, 361, rfl⟩
abbrev main_call17_v14 : Ref sig .tc := ⟨.hbm, 362, rfl⟩
abbrev main_v131 : Ref sig .tc := ⟨.hbm, 363, rfl⟩
abbrev main_v132 : Ref sig .tc := ⟨.hbm, 364, rfl⟩
abbrev main_v133 : Ref sig .tc := ⟨.hbm, 365, rfl⟩
abbrev main_cst_40 : Ref sig .tc := ⟨.hbm, 366, rfl⟩
abbrev main_v134 : Ref sig .tc := ⟨.hbm, 367, rfl⟩
abbrev main_cst_41 : Ref sig .tc := ⟨.hbm, 368, rfl⟩
abbrev main_v135 : Ref sig .tc := ⟨.hbm, 369, rfl⟩
abbrev main_cst_42 : Ref sig .tc := ⟨.hbm, 370, rfl⟩
abbrev main_v136 : Ref sig .tc := ⟨.hbm, 371, rfl⟩
abbrev main_v137 : Ref sig .tc := ⟨.hbm, 372, rfl⟩
abbrev main_v138 : Ref sig .tc := ⟨.hbm, 373, rfl⟩
abbrev main_cst_43 : Ref sig .tc := ⟨.hbm, 374, rfl⟩
abbrev main_v139 : Ref sig .tc := ⟨.hbm, 375, rfl⟩
abbrev main_cst_44 : Ref sig .tc := ⟨.hbm, 376, rfl⟩
abbrev main_v140 : Ref sig .tc := ⟨.hbm, 377, rfl⟩
abbrev main_cst_45 : Ref sig .tc := ⟨.hbm, 378, rfl⟩
abbrev main_v141 : Ref sig .tc := ⟨.hbm, 379, rfl⟩
abbrev main_v142 : Ref sig .tc := ⟨.hbm, 380, rfl⟩
abbrev main_v143 : Ref sig .tc := ⟨.hbm, 381, rfl⟩
abbrev main_cst_46 : Ref sig .tc := ⟨.hbm, 382, rfl⟩
abbrev main_v144 : Ref sig .tc := ⟨.hbm, 383, rfl⟩
abbrev main_v145 : Ref sig .tc := ⟨.hbm, 384, rfl⟩
abbrev main_v146 : Ref sig .tc := ⟨.hbm, 385, rfl⟩
abbrev main_cst_47 : Ref sig .tc := ⟨.hbm, 386, rfl⟩
abbrev main_v147 : Ref sig .tc := ⟨.hbm, 387, rfl⟩
abbrev main_v148 : Ref sig .tc := ⟨.hbm, 388, rfl⟩
abbrev main_v149 : Ref sig .tc := ⟨.hbm, 389, rfl⟩
abbrev main_v150 : Ref sig .tc := ⟨.hbm, 390, rfl⟩
abbrev main_v151 : Ref sig .tc := ⟨.hbm, 391, rfl⟩
abbrev main_v152 : Ref sig .tc := ⟨.hbm, 392, rfl⟩
abbrev main_cst_48 : Ref sig .tc := ⟨.hbm, 393, rfl⟩
abbrev main_v153 : Ref sig .tc := ⟨.hbm, 394, rfl⟩
abbrev main_v154 : Ref sig .tc := ⟨.hbm, 395, rfl⟩
abbrev main_v155 : Ref sig .tc := ⟨.hbm, 396, rfl⟩
abbrev main_cst_49 : Ref sig .tc := ⟨.hbm, 397, rfl⟩
abbrev main_v156 : Ref sig .tc := ⟨.hbm, 398, rfl⟩
abbrev main_v157 : Ref sig .tc := ⟨.hbm, 399, rfl⟩
abbrev main_v158 : Ref sig .tc := ⟨.hbm, 400, rfl⟩
abbrev main_cst_50 : Ref sig .tc := ⟨.hbm, 401, rfl⟩
abbrev main_v159 : Ref sig .tc := ⟨.hbm, 402, rfl⟩
abbrev main_v160 : Ref sig .tc := ⟨.hbm, 403, rfl⟩
abbrev main_v161 : Ref sig .tc := ⟨.hbm, 404, rfl⟩
abbrev main_v162 : Ref sig .tc := ⟨.hbm, 405, rfl⟩
abbrev main_v163 : Ref sig .tc := ⟨.hbm, 406, rfl⟩
abbrev main_c_51 : Ref sig .tc := ⟨.hbm, 407, rfl⟩
abbrev main_call18_v0 : Ref sig .tc := ⟨.hbm, 408, rfl⟩
abbrev main_call18_v1 : Ref sig .tc := ⟨.hbm, 409, rfl⟩
abbrev main_v164 : Ref sig .tc := ⟨.hbm, 410, rfl⟩
abbrev main_c_52 : Ref sig .tc := ⟨.hbm, 411, rfl⟩
abbrev main_v165 : Ref sig .tc := ⟨.hbm, 412, rfl⟩
abbrev main_call19_v0 : Ref sig .tc := ⟨.hbm, 413, rfl⟩
abbrev main_call19_v1_0 : Ref sig .tc := ⟨.hbm, 414, rfl⟩
abbrev main_v166 : Ref sig .tc := ⟨.hbm, 415, rfl⟩
abbrev main_v167 : Ref sig .tc := ⟨.hbm, 416, rfl⟩
abbrev main_v168 : Ref sig .tc := ⟨.hbm, 417, rfl⟩
abbrev main_v169 : Ref sig .tc := ⟨.hbm, 418, rfl⟩
abbrev main_call21_c : Ref sig .tc := ⟨.hbm, 419, rfl⟩
abbrev main_call21_v0 : Ref sig .tc := ⟨.hbm, 420, rfl⟩
abbrev main_call21_v1 : Ref sig .tc := ⟨.hbm, 421, rfl⟩
abbrev main_call21_c_0 : Ref sig .tc := ⟨.hbm, 422, rfl⟩
abbrev main_call21_v2 : Ref sig .tc := ⟨.hbm, 423, rfl⟩
abbrev main_call21_v3 : Ref sig .tc := ⟨.hbm, 424, rfl⟩
abbrev main_call21_v4 : Ref sig .tc := ⟨.hbm, 425, rfl⟩
abbrev main_call21_c_1 : Ref sig .tc := ⟨.hbm, 426, rfl⟩
abbrev main_call21_c_2 : Ref sig .tc := ⟨.hbm, 427, rfl⟩
abbrev main_call21_v5 : Ref sig .tc := ⟨.hbm, 428, rfl⟩
abbrev main_call21_v6 : Ref sig .tc := ⟨.hbm, 429, rfl⟩
abbrev main_call21_v7 : Ref sig .tc := ⟨.hbm, 430, rfl⟩
abbrev main_call21_v8 : Ref sig .tc := ⟨.hbm, 431, rfl⟩
abbrev main_call21_v9 : Ref sig .tc := ⟨.hbm, 432, rfl⟩
abbrev main_call21_v10 : Ref sig .tc := ⟨.hbm, 433, rfl⟩
abbrev main_call21_c_3 : Ref sig .tc := ⟨.hbm, 434, rfl⟩
abbrev main_call21_v11 : Ref sig .tc := ⟨.hbm, 435, rfl⟩
abbrev main_call21_v12 : Ref sig .tc := ⟨.hbm, 436, rfl⟩
abbrev main_call21_v13 : Ref sig .tc := ⟨.hbm, 437, rfl⟩
abbrev main_call21_cst : Ref sig .tc := ⟨.hbm, 438, rfl⟩
abbrev main_call21_v14 : Ref sig .tc := ⟨.hbm, 439, rfl⟩
abbrev main_v170 : Ref sig .tc := ⟨.hbm, 440, rfl⟩
abbrev main_call22_c : Ref sig .tc := ⟨.hbm, 441, rfl⟩
abbrev main_call22_v0 : Ref sig .tc := ⟨.hbm, 442, rfl⟩
abbrev main_call22_v1 : Ref sig .tc := ⟨.hbm, 443, rfl⟩
abbrev main_call22_c_0 : Ref sig .tc := ⟨.hbm, 444, rfl⟩
abbrev main_call22_v2 : Ref sig .tc := ⟨.hbm, 445, rfl⟩
abbrev main_call22_v3 : Ref sig .tc := ⟨.hbm, 446, rfl⟩
abbrev main_call22_v4 : Ref sig .tc := ⟨.hbm, 447, rfl⟩
abbrev main_call22_v5 : Ref sig .tc := ⟨.hbm, 448, rfl⟩
abbrev main_call22_c_1 : Ref sig .tc := ⟨.hbm, 449, rfl⟩
abbrev main_call22_c_2 : Ref sig .tc := ⟨.hbm, 450, rfl⟩
abbrev main_call22_v6 : Ref sig .tc := ⟨.hbm, 451, rfl⟩
abbrev main_call22_v7 : Ref sig .tc := ⟨.hbm, 452, rfl⟩
abbrev main_call22_v8 : Ref sig .tc := ⟨.hbm, 453, rfl⟩
abbrev main_call22_v9 : Ref sig .tc := ⟨.hbm, 454, rfl⟩
abbrev main_call22_v10 : Ref sig .tc := ⟨.hbm, 455, rfl⟩
abbrev main_call22_v11 : Ref sig .tc := ⟨.hbm, 456, rfl⟩
abbrev main_call22_c_3 : Ref sig .tc := ⟨.hbm, 457, rfl⟩
abbrev main_call22_v12 : Ref sig .tc := ⟨.hbm, 458, rfl⟩
abbrev main_call22_v13 : Ref sig .tc := ⟨.hbm, 459, rfl⟩
abbrev main_call22_c_4 : Ref sig .tc := ⟨.hbm, 460, rfl⟩
abbrev main_call22_v14 : Ref sig .tc := ⟨.hbm, 461, rfl⟩
abbrev main_v171 : Ref sig .tc := ⟨.hbm, 462, rfl⟩
abbrev main_v172 : Ref sig .tc := ⟨.hbm, 463, rfl⟩
abbrev main_call23_c : Ref sig .tc := ⟨.hbm, 464, rfl⟩
abbrev main_call23_v0 : Ref sig .tc := ⟨.hbm, 465, rfl⟩
abbrev main_call23_v1 : Ref sig .tc := ⟨.hbm, 466, rfl⟩
abbrev main_call23_c_0 : Ref sig .tc := ⟨.hbm, 467, rfl⟩
abbrev main_call23_v2 : Ref sig .tc := ⟨.hbm, 468, rfl⟩
abbrev main_call23_v3 : Ref sig .tc := ⟨.hbm, 469, rfl⟩
abbrev main_call23_v4 : Ref sig .tc := ⟨.hbm, 470, rfl⟩
abbrev main_call23_c_1 : Ref sig .tc := ⟨.hbm, 471, rfl⟩
abbrev main_call23_c_2 : Ref sig .tc := ⟨.hbm, 472, rfl⟩
abbrev main_call23_v5 : Ref sig .tc := ⟨.hbm, 473, rfl⟩
abbrev main_call23_v6 : Ref sig .tc := ⟨.hbm, 474, rfl⟩
abbrev main_call23_v7 : Ref sig .tc := ⟨.hbm, 475, rfl⟩
abbrev main_call23_v8 : Ref sig .tc := ⟨.hbm, 476, rfl⟩
abbrev main_call23_v9 : Ref sig .tc := ⟨.hbm, 477, rfl⟩
abbrev main_call23_v10 : Ref sig .tc := ⟨.hbm, 478, rfl⟩
abbrev main_call23_c_3 : Ref sig .tc := ⟨.hbm, 479, rfl⟩
abbrev main_call23_v11 : Ref sig .tc := ⟨.hbm, 480, rfl⟩
abbrev main_call23_v12 : Ref sig .tc := ⟨.hbm, 481, rfl⟩
abbrev main_call23_v13 : Ref sig .tc := ⟨.hbm, 482, rfl⟩
abbrev main_call23_cst : Ref sig .tc := ⟨.hbm, 483, rfl⟩
abbrev main_call23_v14 : Ref sig .tc := ⟨.hbm, 484, rfl⟩
abbrev main_v173 : Ref sig .tc := ⟨.hbm, 485, rfl⟩
abbrev main_v174 : Ref sig .tc := ⟨.hbm, 486, rfl⟩
abbrev main_cst_53 : Ref sig .tc := ⟨.hbm, 487, rfl⟩
abbrev main_v175 : Ref sig .tc := ⟨.hbm, 488, rfl⟩
abbrev main_v176 : Ref sig .tc := ⟨.hbm, 489, rfl⟩
abbrev main_v177 : Ref sig .tc := ⟨.hbm, 490, rfl⟩
abbrev main_cst_54 : Ref sig .tc := ⟨.hbm, 491, rfl⟩
abbrev main_v178 : Ref sig .tc := ⟨.hbm, 492, rfl⟩
abbrev main_v179 : Ref sig .tc := ⟨.hbm, 493, rfl⟩
abbrev main_v180 : Ref sig .tc := ⟨.hbm, 494, rfl⟩
abbrev main_v181 : Ref sig .tc := ⟨.hbm, 495, rfl⟩
abbrev main_v182 : Ref sig .tc := ⟨.hbm, 496, rfl⟩
abbrev main_v183 : Ref sig .tc := ⟨.hbm, 497, rfl⟩
abbrev main_cst_55 : Ref sig .tc := ⟨.hbm, 498, rfl⟩
abbrev main_v184 : Ref sig .tc := ⟨.hbm, 499, rfl⟩
abbrev main_v185 : Ref sig .tc := ⟨.hbm, 500, rfl⟩
abbrev main_v186 : Ref sig .tc := ⟨.hbm, 501, rfl⟩
abbrev main_cst_56 : Ref sig .tc := ⟨.hbm, 502, rfl⟩
abbrev main_v187 : Ref sig .tc := ⟨.hbm, 503, rfl⟩
abbrev main_v188 : Ref sig .tc := ⟨.hbm, 504, rfl⟩
abbrev main_v189 : Ref sig .tc := ⟨.hbm, 505, rfl⟩
abbrev main_cst_57 : Ref sig .tc := ⟨.hbm, 506, rfl⟩
abbrev main_v190 : Ref sig .tc := ⟨.hbm, 507, rfl⟩
abbrev main_v191 : Ref sig .tc := ⟨.hbm, 508, rfl⟩
abbrev main_v192 : Ref sig .tc := ⟨.hbm, 509, rfl⟩
abbrev main_v193 : Ref sig .tc := ⟨.hbm, 510, rfl⟩
abbrev main_v194 : Ref sig .tc := ⟨.hbm, 511, rfl⟩
abbrev main_c_58 : Ref sig .tc := ⟨.hbm, 512, rfl⟩
abbrev main_call24_v0 : Ref sig .tc := ⟨.hbm, 513, rfl⟩
abbrev main_call24_v1 : Ref sig .tc := ⟨.hbm, 514, rfl⟩
abbrev main_v195 : Ref sig .tc := ⟨.hbm, 515, rfl⟩
abbrev main_c_59 : Ref sig .tc := ⟨.hbm, 516, rfl⟩
abbrev main_v196 : Ref sig .tc := ⟨.hbm, 517, rfl⟩
abbrev main_call25_v0 : Ref sig .tc := ⟨.hbm, 518, rfl⟩
abbrev main_call25_v1_0 : Ref sig .tc := ⟨.hbm, 519, rfl⟩
abbrev main_v197 : Ref sig .tc := ⟨.hbm, 520, rfl⟩
abbrev main_v198 : Ref sig .tc := ⟨.hbm, 521, rfl⟩
abbrev main_v199 : Ref sig .tc := ⟨.hbm, 522, rfl⟩
abbrev main_v200 : Ref sig .tc := ⟨.hbm, 523, rfl⟩
abbrev main_call27_c : Ref sig .tc := ⟨.hbm, 524, rfl⟩
abbrev main_call27_v0 : Ref sig .tc := ⟨.hbm, 525, rfl⟩
abbrev main_call27_v1 : Ref sig .tc := ⟨.hbm, 526, rfl⟩
abbrev main_call27_c_0 : Ref sig .tc := ⟨.hbm, 527, rfl⟩
abbrev main_call27_v2 : Ref sig .tc := ⟨.hbm, 528, rfl⟩
abbrev main_call27_v3 : Ref sig .tc := ⟨.hbm, 529, rfl⟩
abbrev main_call27_v4 : Ref sig .tc := ⟨.hbm, 530, rfl⟩
abbrev main_call27_c_1 : Ref sig .tc := ⟨.hbm, 531, rfl⟩
abbrev main_call27_c_2 : Ref sig .tc := ⟨.hbm, 532, rfl⟩
abbrev main_call27_v5 : Ref sig .tc := ⟨.hbm, 533, rfl⟩
abbrev main_call27_v6 : Ref sig .tc := ⟨.hbm, 534, rfl⟩
abbrev main_call27_v7 : Ref sig .tc := ⟨.hbm, 535, rfl⟩
abbrev main_call27_v8 : Ref sig .tc := ⟨.hbm, 536, rfl⟩
abbrev main_call27_v9 : Ref sig .tc := ⟨.hbm, 537, rfl⟩
abbrev main_call27_v10 : Ref sig .tc := ⟨.hbm, 538, rfl⟩
abbrev main_call27_c_3 : Ref sig .tc := ⟨.hbm, 539, rfl⟩
abbrev main_call27_v11 : Ref sig .tc := ⟨.hbm, 540, rfl⟩
abbrev main_call27_v12 : Ref sig .tc := ⟨.hbm, 541, rfl⟩
abbrev main_call27_v13 : Ref sig .tc := ⟨.hbm, 542, rfl⟩
abbrev main_call27_cst : Ref sig .tc := ⟨.hbm, 543, rfl⟩
abbrev main_call27_v14 : Ref sig .tc := ⟨.hbm, 544, rfl⟩
abbrev main_v201 : Ref sig .tc := ⟨.hbm, 545, rfl⟩
abbrev main_call28_c : Ref sig .tc := ⟨.hbm, 546, rfl⟩
abbrev main_call28_v0 : Ref sig .tc := ⟨.hbm, 547, rfl⟩
abbrev main_call28_v1 : Ref sig .tc := ⟨.hbm, 548, rfl⟩
abbrev main_call28_c_0 : Ref sig .tc := ⟨.hbm, 549, rfl⟩
abbrev main_call28_v2 : Ref sig .tc := ⟨.hbm, 550, rfl⟩
abbrev main_call28_v3 : Ref sig .tc := ⟨.hbm, 551, rfl⟩
abbrev main_call28_v4 : Ref sig .tc := ⟨.hbm, 552, rfl⟩
abbrev main_call28_v5 : Ref sig .tc := ⟨.hbm, 553, rfl⟩
abbrev main_call28_c_1 : Ref sig .tc := ⟨.hbm, 554, rfl⟩
abbrev main_call28_c_2 : Ref sig .tc := ⟨.hbm, 555, rfl⟩
abbrev main_call28_v6 : Ref sig .tc := ⟨.hbm, 556, rfl⟩
abbrev main_call28_v7 : Ref sig .tc := ⟨.hbm, 557, rfl⟩
abbrev main_call28_v8 : Ref sig .tc := ⟨.hbm, 558, rfl⟩
abbrev main_call28_v9 : Ref sig .tc := ⟨.hbm, 559, rfl⟩
abbrev main_call28_v10 : Ref sig .tc := ⟨.hbm, 560, rfl⟩
abbrev main_call28_v11 : Ref sig .tc := ⟨.hbm, 561, rfl⟩
abbrev main_call28_c_3 : Ref sig .tc := ⟨.hbm, 562, rfl⟩
abbrev main_call28_v12 : Ref sig .tc := ⟨.hbm, 563, rfl⟩
abbrev main_call28_v13 : Ref sig .tc := ⟨.hbm, 564, rfl⟩
abbrev main_call28_c_4 : Ref sig .tc := ⟨.hbm, 565, rfl⟩
abbrev main_call28_v14 : Ref sig .tc := ⟨.hbm, 566, rfl⟩
abbrev main_v202 : Ref sig .tc := ⟨.hbm, 567, rfl⟩
abbrev main_v203 : Ref sig .tc := ⟨.hbm, 568, rfl⟩
abbrev main_call29_c : Ref sig .tc := ⟨.hbm, 569, rfl⟩
abbrev main_call29_v0 : Ref sig .tc := ⟨.hbm, 570, rfl⟩
abbrev main_call29_v1 : Ref sig .tc := ⟨.hbm, 571, rfl⟩
abbrev main_call29_c_0 : Ref sig .tc := ⟨.hbm, 572, rfl⟩
abbrev main_call29_v2 : Ref sig .tc := ⟨.hbm, 573, rfl⟩
abbrev main_call29_v3 : Ref sig .tc := ⟨.hbm, 574, rfl⟩
abbrev main_call29_v4 : Ref sig .tc := ⟨.hbm, 575, rfl⟩
abbrev main_call29_c_1 : Ref sig .tc := ⟨.hbm, 576, rfl⟩
abbrev main_call29_c_2 : Ref sig .tc := ⟨.hbm, 577, rfl⟩
abbrev main_call29_v5 : Ref sig .tc := ⟨.hbm, 578, rfl⟩
abbrev main_call29_v6 : Ref sig .tc := ⟨.hbm, 579, rfl⟩
abbrev main_call29_v7 : Ref sig .tc := ⟨.hbm, 580, rfl⟩
abbrev main_call29_v8 : Ref sig .tc := ⟨.hbm, 581, rfl⟩
abbrev main_call29_v9 : Ref sig .tc := ⟨.hbm, 582, rfl⟩
abbrev main_call29_v10 : Ref sig .tc := ⟨.hbm, 583, rfl⟩
abbrev main_call29_c_3 : Ref sig .tc := ⟨.hbm, 584, rfl⟩
abbrev main_call29_v11 : Ref sig .tc := ⟨.hbm, 585, rfl⟩
abbrev main_call29_v12 : Ref sig .tc := ⟨.hbm, 586, rfl⟩
abbrev main_call29_v13 : Ref sig .tc := ⟨.hbm, 587, rfl⟩
abbrev main_call29_cst : Ref sig .tc := ⟨.hbm, 588, rfl⟩
abbrev main_call29_v14 : Ref sig .tc := ⟨.hbm, 589, rfl⟩
abbrev main_v204 : Ref sig .tc := ⟨.hbm, 590, rfl⟩
abbrev main_v205 : Ref sig .tc := ⟨.hbm, 591, rfl⟩
abbrev main_v206 : Ref sig .tc := ⟨.hbm, 592, rfl⟩
abbrev main_cst_60 : Ref sig .tc := ⟨.hbm, 593, rfl⟩
abbrev main_v207 : Ref sig .tc := ⟨.hbm, 594, rfl⟩
abbrev main_cst_61 : Ref sig .tc := ⟨.hbm, 595, rfl⟩
abbrev main_v208 : Ref sig .tc := ⟨.hbm, 596, rfl⟩
abbrev main_cst_62 : Ref sig .tc := ⟨.hbm, 597, rfl⟩
abbrev main_v209 : Ref sig .tc := ⟨.hbm, 598, rfl⟩
abbrev main_v210 : Ref sig .tc := ⟨.hbm, 599, rfl⟩
abbrev main_v211 : Ref sig .tc := ⟨.hbm, 600, rfl⟩
abbrev main_v212 : Ref sig .tc := ⟨.hbm, 601, rfl⟩
abbrev main_cst_63 : Ref sig .tc := ⟨.hbm, 602, rfl⟩
abbrev main_v213 : Ref sig .tc := ⟨.hbm, 603, rfl⟩
abbrev main_cst_64 : Ref sig .tc := ⟨.hbm, 604, rfl⟩
abbrev main_v214 : Ref sig .tc := ⟨.hbm, 605, rfl⟩
abbrev main_cst_65 : Ref sig .tc := ⟨.hbm, 606, rfl⟩
abbrev main_v215 : Ref sig .tc := ⟨.hbm, 607, rfl⟩
abbrev main_v216 : Ref sig .tc := ⟨.hbm, 608, rfl⟩
abbrev main_cst_66 : Ref sig .tc := ⟨.hbm, 609, rfl⟩
abbrev main_v217 : Ref sig .tc := ⟨.hbm, 610, rfl⟩
abbrev main_cst_67 : Ref sig .tc := ⟨.hbm, 611, rfl⟩
abbrev main_v218 : Ref sig .tc := ⟨.hbm, 612, rfl⟩
abbrev main_cst_68 : Ref sig .tc := ⟨.hbm, 613, rfl⟩
abbrev main_v219 : Ref sig .tc := ⟨.hbm, 614, rfl⟩
abbrev main_v220 : Ref sig .tc := ⟨.hbm, 615, rfl⟩

abbrev nD : Nat := 1
abbrev τ : Topo := Topo.v7x

variable {F : FTy → Type} [FloatOps F]
-- ==== Proof.KFinal.lean ====
module

public import proofs.«01_k».proof.Proof.Gen.KernelIdeal.Frame
public import Idealize.ShloMosaic.Lib.Pipeline.Value

@[expose] public section

set_option maxRecDepth 65536

noncomputable section

/-! The second call as a composition of a few vector operations: the rounds of "take the row's least key",
    and the global statistics of each embedding. -/

namespace Cert.KFinal

open Idealize.ShloMosaic Idealize.SL.Sem Cert.KernelIdeal Cert.KernelIdeal.Gen

variable {F : FTy → Type} [FloatOps F]

/-- The least key of each row. -/
def mins (keys : FVec F S64x576 .f32) : FVec F S64 .f32 :=
  multiReduction .minimumf [1] S64 keys 0x7F800000#32 reduces_S64x576_S64 (.inl rfl) rfl

/-- One number per row, as a column. -/
def colOf (v : FVec F S64 .f32) : FVec F S64x1 .f32 := shapeCast S64x1 v shapeCasts_S64_S64x1

/-- The least key of each row, as a column. -/
def least (keys : FVec F S64x576 .f32) : FVec F S64x1 .f32 := colOf (mins keys)

/-- Where a row's key is the row's entry of the column `c`. -/
def marks (keys : FVec F S64x576 .f32) (c : FVec F S64x1 .f32) : IVec S64x576 1 :=
  cmpf .oeq keys (broadcastTo S64x576 c broadcasts_S64x1_S64x576)

/-- The marked keys put out of the way. -/
def putOut (p : IVec S64x576 1) (keys : FVec F S64x576 .f32) : FVec F S64x576 .f32 :=
  select p (broadcast S64x576 (Scalar.ofBits .f32 0x7F800000#32)) keys

/-- The sum of each row's marked values, as a column. -/
def pickAt (p : IVec S64x576 1) (vals : FVec F S64x576 .f32) : FVec F S64x1 .f32 :=
  colOf (multiReduction .add [1] S64
    (select p vals (broadcast S64x576 (Scalar.ofBits .f32 0x00000000#32)))
    0x00000000#32 reduces_S64x576_S64 (.inl rfl) rfl)

/-- The keys after `t` rounds: each round puts the row's least keys out of the way. -/
def rounds (keys : FVec F S64x576 .f32) : Nat → FVec F S64x576 .f32
  | 0 => keys
  | t + 1 => putOut (marks (rounds keys t) (least (rounds keys t))) (rounds keys t)

/-- The sum of the first `t` rounds' least keys. -/
def keySum (keys : FVec F S64x576 .f32) : Nat → FVec F S64x1 .f32
  | 0 => broadcast S64x1 (Scalar.ofBits .f32 0x00000000#32)
  | t + 1 => addf (keySum keys t) (least (rounds keys t))

/-- The sum of the first `t` rounds' values at the row's least key. -/
def valSum (keys vals : FVec F S64x576 .f32) : Nat → FVec F S64x1 .f32
  | 0 => broadcast S64x1 (Scalar.ofBits .f32 0x00000000#32)
  | t + 1 => addf (valSum keys vals t) (pickAt (marks (rounds keys t) (least (rounds keys t))) vals)

/-- A column's total. -/
def colTotal (v : FVec F S64x1 .f32) : F .f32 :=
  extractAt ![0, 0, 0] (shapeCast S1x1x1 (multiReduction .add [1, 2] S1
    (shapeCast S1x64x1 v shapeCasts_S64x1_S1x64x1) 0x00000000#32 reduces_S1x64x1_S1 (.inl rfl) rfl)
    shapeCasts_S1_S1x1x1) inpos_S1x1x1_p0_0_0

/-- The call's result from the global loss and the four totals. -/
def combine (g s0 s1 s2 s3 : F .f32) : F .f32 :=
  Scalar.addf (Scalar.mulf (Scalar.ofBits .f32 0x3E800000#32) g)
    (Scalar.mulf (Scalar.ofBits .f32 0x3F400000#32)
      (Scalar.mulf (Scalar.ofBits .f32 0x41C80000#32)
        (Scalar.addf (Scalar.addf (Scalar.addf
          (Scalar.divf s0 (Scalar.ofBits .f32 0x49F00000#32))
          (Scalar.divf s1 (Scalar.ofBits .f32 0x48C00000#32)))
          (Scalar.divf s2 (Scalar.ofBits .f32 0x49F00000#32)))
          (Scalar.divf s3 (Scalar.ofBits .f32 0x48C00000#32)))))

/-- The global loss the second call computes from the two embeddings. -/
def globalLoss (x0 x1 : FVec F S64x8192 .f32) : F .f32 :=
  k1_pay12 (k1_pay10 x0 x1 (k1_pay5 x0) (k1_pay6 x1) k1_pay7) (k1_pay11 x1 (k1_pay4 x0) (k1_pay6 x1) k1_pay7)

/-- The second call's stored value from its loaded blocks. -/
def stored (x0 x1 : FVec F S64x8192 .f32) (x2 x3 x4 x5 x6 x7 : FVec F S64x576 .f32) : F .f32 :=
  combine (globalLoss x0 x1) (colTotal (keySum x2 20)) (colTotal (keySum x3 4))
    (colTotal (valSum x4 x6 20)) (colTotal (valSum x5 x7 4))

/-- The offsets of a whole block are zero. -/
theorem zeros2 : (![0, 0] : Fin 2 → Nat) = fun _ => 0 := by
  funext a; fin_cases a <;> rfl

/-- A value of the second call: the loaded block. -/
theorem pay13_eq (v88 : Vec F S64x576 .f32) :
    k1_pay13 v88 = v88 := shapeCast_self _ _

/-- A value of the second call: the loaded block. -/
theorem pay14_eq (v90 : Vec F S64x576 .f32) :
    k1_pay14 v90 = v90 := shapeCast_self _ _

/-- A value of the second call: the loaded block. -/
theorem pay15_eq (v92 : Vec F S64x576 .f32) :
    k1_pay15 v92 = v92 := shapeCast_self _ _

/-- A value of the second call: the loaded block. -/
theorem pay16_eq (v94 : Vec F S64x576 .f32) :
    k1_pay16 v94 = v94 := shapeCast_self _ _

/-- A value of the second call: the loaded block. -/
theorem pay17_eq (v96 : Vec F S64x576 .f32) :
    k1_pay17 v96 = v96 := shapeCast_self _ _

/-- A value of the second call: the loaded block. -/
theorem pay18_eq (v98 : Vec F S64x576 .f32) :
    k1_pay18 v98 = v98 := shapeCast_self _ _

/-- A value of the second call: in terms of the rounds. -/
theorem pay19_eq (v88 : Vec F S64x576 .f32) :
    k1_pay19 v88 = (least (k1_pay13 v88)) := rfl

/-- A value of the second call: in terms of the rounds. -/
theorem pay20_eq (v88 : Vec F S64x576 .f32) :
    k1_pay20 v88 = (putOut (marks (k1_pay13 v88) (k1_pay19 v88)) (k1_pay13 v88)) := rfl

/-- A value of the second call: in terms of the rounds. -/
theorem pay21_eq (v88 : Vec F S64x576 .f32) :
    k1_pay21 v88 = (least (k1_pay20 v88)) := rfl

/-- A value of the second call: in terms of the rounds. -/
theorem pay22_eq (v88 : Vec F S64x576 .f32) :
    k1_pay22 v88 = (putOut (marks (k1_pay20 v88) (k1_pay21 v88)) (k1_pay20 v88)) := rfl

/-- A value of the second call: in terms of the rounds. -/
theorem pay23_eq (v88 : Vec F S64x576 .f32) :
    k1_pay23 v88 = (least (k1_pay22 v88)) := rfl

/-- A value of the second call: in terms of the rounds. -/
theorem pay24_eq (v88 : Vec F S64x576 .f32) :
    k1_pay24 v88 = (putOut (marks (k1_pay22 v88) (k1_pay23 v88)) (k1_pay22 v88)) := rfl

/-- A value of the second call: in terms of the rounds. -/
theorem pay25_eq (v88 : Vec F S64x576 .f32) :
    k1_pay25 v88 = (least (k1_pay24 v88)) := rfl

/-- A value of the second call: in terms of the rounds. -/
theorem pay26_eq (v88 : Vec F S64x576 .f32) :
    k1_pay26 v88 = (addf (addf (addf (addf (broadcast S64x1 (Scalar.ofBits .f32 0x00000000#32)) (k1_pay19 v88)) (k1_pay21 v88)) (k1_pay23 v88)) (k1_pay25 v88)) := rfl

/-- A value of the second call: in terms of the rounds. -/
theorem pay27_eq (v121 : FVec F S64x576 .f32) (v123 : FVec F S64x1 .f32) :
    k1_pay27 v121 v123 = (putOut (marks v121 v123) v121) := rfl

/-- A value of the second call: in terms of the rounds. -/
theorem pay28_eq (v121 : FVec F S64x576 .f32) (v123 : FVec F S64x1 .f32) :
    k1_pay28 v121 v123 = (least (k1_pay27 v121 v123)) := rfl

/-- A value of the second call: in terms of the rounds. -/
theorem pay29_eq (v121 : FVec F S64x576 .f32) (v123 : FVec F S64x1 .f32) :
    k1_pay29 v121 v123 = (putOut (marks (k1_pay27 v121 v123) (k1_pay28 v121 v123)) (k1_pay27 v121 v123)) := rfl

/-- A value of the second call: in terms of the rounds. -/
theorem pay30_eq (v121 : FVec F S64x576 .f32) (v123 : FVec F S64x1 .f32) :
    k1_pay30 v121 v123 = (least (k1_pay29 v121 v123)) := rfl

/-- A value of the second call: in terms of the rounds. -/
theorem pay31_eq (v121 : FVec F S64x576 .f32) (v123 : FVec F S64x1 .f32) :
    k1_pay31 v121 v123 = (putOut (marks (k1_pay29 v121 v123) (k1_pay30 v121 v123)) (k1_pay29 v121 v123)) := rfl

/-- A value of the second call: in terms of the rounds. -/
theorem pay32_eq (v121 : FVec F S64x576 .f32) (v123 : FVec F S64x1 .f32) :
    k1_pay32 v121 v123 = (least (k1_pay31 v121 v123)) := rfl

/-- A value of the second call: in terms of the rounds. -/
theorem pay33_eq (v121 : FVec F S64x576 .f32) (v123 : FVec F S64x1 .f32) :
    k1_pay33 v121 v123 = (putOut (marks (k1_pay31 v121 v123) (k1_pay32 v121 v123)) (k1_pay31 v121 v123)) := rfl

/-- A value of the second call: in terms of the rounds. -/
theorem pay34_eq (v121 : FVec F S64x576 .f32) (v123 : FVec F S64x1 .f32) :
    k1_pay34 v121 v123 = (least (k1_pay33 v121 v123)) := rfl

/-- A value of the second call: in terms of the rounds. -/
theorem pay35_eq (v121 : FVec F S64x576 .f32) (v123 : FVec F S64x1 .f32) :
    k1_pay35 v121 v123 = (putOut (marks (k1_pay33 v121 v123) (k1_pay34 v121 v123)) (k1_pay33 v121 v123)) := rfl

/-- A value of the second call: in terms of the rounds. -/
theorem pay36_eq (v121 : FVec F S64x576 .f32) (v123 : FVec F S64x1 .f32) :
    k1_pay36 v121 v123 = (least (k1_pay35 v121 v123)) := rfl

/-- A value of the second call: in terms of the rounds. -/
theorem pay37_eq (v121 : FVec F S64x576 .f32) (v123 : FVec F S64x1 .f32) :
    k1_pay37 v121 v123 = (putOut (marks (k1_pay35 v121 v123) (k1_pay36 v121 v123)) (k1_pay35 v121 v123)) := rfl

/-- A value of the second call: in terms of the rounds. -/
theorem pay38_eq (v121 : FVec F S64x576 .f32) (v123 : FVec F S64x1 .f32) :
    k1_pay38 v121 v123 = (least (k1_pay37 v121 v123)) := rfl

/-- A value of the second call: in terms of the rounds. -/
theorem pay39_eq (v121 : FVec F S64x576 .f32) (v123 : FVec F S64x1 .f32) (v124 : FVec F S64x1 .f32) :
    k1_pay39 v121 v123 v124 = (addf (addf (addf (addf (addf (addf v124 (k1_pay28 v121 v123)) (k1_pay30 v121 v123)) (k1_pay32 v121 v123)) (k1_pay34 v121 v123)) (k1_pay36 v121 v123)) (k1_pay38 v121 v123)) := rfl

/-- A value of the second call: in terms of the rounds. -/
theorem pay40_eq (v121 : FVec F S64x576 .f32) (v123 : FVec F S64x1 .f32) :
    k1_pay40 v121 v123 = (putOut (marks (k1_pay37 v121 v123) (k1_pay38 v121 v123)) (k1_pay37 v121 v123)) := rfl

/-- A value of the second call: in terms of the rounds. -/
theorem pay41_eq (v170 : FVec F S64x576 .f32) :
    k1_pay41 v170 = (least v170) := rfl

/-- A value of the second call: in terms of the rounds. -/
theorem pay42_eq (v170 : FVec F S64x576 .f32) :
    k1_pay42 v170 = (putOut (marks v170 (k1_pay41 v170)) v170) := rfl

/-- A value of the second call: in terms of the rounds. -/
theorem pay43_eq (v170 : FVec F S64x576 .f32) :
    k1_pay43 v170 = (least (k1_pay42 v170)) := rfl

/-- A value of the second call: in terms of the rounds. -/
theorem pay44_eq (v170 : FVec F S64x576 .f32) :
    k1_pay44 v170 = (putOut (marks (k1_pay42 v170) (k1_pay43 v170)) (k1_pay42 v170)) := rfl

/-- A value of the second call: in terms of the rounds. -/
theorem pay45_eq (v170 : FVec F S64x576 .f32) :
    k1_pay45 v170 = (least (k1_pay44 v170)) := rfl

/-- A value of the second call: in terms of the rounds. -/
theorem pay46_eq (v170 : FVec F S64x576 .f32) :
    k1_pay46 v170 = (putOut (marks (k1_pay44 v170) (k1_pay45 v170)) (k1_pay44 v170)) := rfl

/-- A value of the second call: in terms of the rounds. -/
theorem pay47_eq (v170 : FVec F S64x576 .f32) :
    k1_pay47 v170 = (least (k1_pay46 v170)) := rfl

/-- A value of the second call: in terms of the rounds. -/
theorem pay48_eq (v170 : FVec F S64x576 .f32) :
    k1_pay48 v170 = (putOut (marks (k1_pay46 v170) (k1_pay47 v170)) (k1_pay46 v170)) := rfl

/-- A value of the second call: in terms of the rounds. -/
theorem pay49_eq (v170 : FVec F S64x576 .f32) :
    k1_pay49 v170 = (least (k1_pay48 v170)) := rfl

/-- A value of the second call: in terms of the rounds. -/
theorem pay50_eq (v170 : FVec F S64x576 .f32) :
    k1_pay50 v170 = (putOut (marks (k1_pay48 v170) (k1_pay49 v170)) (k1_pay48 v170)) := rfl

/-- A value of the second call: in terms of the rounds. -/
theorem pay51_eq (v170 : FVec F S64x576 .f32) :
    k1_pay51 v170 = (least (k1_pay50 v170)) := rfl

/-- A value of the second call: in terms of the rounds. -/
theorem pay52_eq (v170 : FVec F S64x576 .f32) :
    k1_pay52 v170 = (putOut (marks (k1_pay50 v170) (k1_pay51 v170)) (k1_pay50 v170)) := rfl

/-- A value of the second call: in terms of the rounds. -/
theorem pay53_eq (v170 : FVec F S64x576 .f32) :
    k1_pay53 v170 = (least (k1_pay52 v170)) := rfl

/-- A value of the second call: in terms of the rounds. -/
theorem pay54_eq (v166 : FVec F S64x1 .f32) (v170 : FVec F S64x576 .f32) :
    k1_pay54 v166 v170 = (addf (addf (addf (addf (addf (addf (addf v166 (k1_pay41 v170)) (k1_pay43 v170)) (k1_pay45 v170)) (k1_pay47 v170)) (k1_pay49 v170)) (k1_pay51 v170)) (k1_pay53 v170)) := rfl

/-- A value of the second call: in terms of the rounds. -/
theorem pay55_eq (v170 : FVec F S64x576 .f32) :
    k1_pay55 v170 = (marks (k1_pay52 v170) (k1_pay53 v170)) := rfl

/-- A value of the second call: in terms of the rounds. -/
theorem pay56_eq (v212 : FVec F S64x576 .f32) (v215 : FVec F S64x1 .f32) (v217 : IVec S64x576 1) :
    k1_pay56 v212 v215 v217 (Scalar.ofBits .f32 0x7F800000#32) = (colTotal (addf (addf (addf v215 (least (putOut v217 v212))) (least (putOut (marks (putOut v217 v212) (least (putOut v217 v212))) (putOut v217 v212)))) (least (putOut (marks (putOut (marks (putOut v217 v212) (least (putOut v217 v212))) (putOut v217 v212)) (least (putOut (marks (putOut v217 v212) (least (putOut v217 v212))) (putOut v217 v212)))) (putOut (marks (putOut v217 v212) (least (putOut v217 v212))) (putOut v217 v212)))))) := rfl

/-- A value of the second call: in terms of the rounds. -/
theorem pay57_eq (v91 : FVec F S64x576 .f32) :
    k1_pay57 v91 = (least v91) := rfl

/-- A value of the second call: in terms of the rounds. -/
theorem pay58_eq (v91 : FVec F S64x576 .f32) :
    k1_pay58 v91 = (putOut (marks v91 (k1_pay57 v91)) v91) := rfl

/-- A value of the second call: in terms of the rounds. -/
theorem pay59_eq (v91 : FVec F S64x576 .f32) :
    k1_pay59 v91 = (least (k1_pay58 v91)) := rfl

/-- A value of the second call: in terms of the rounds. -/
theorem pay60_eq (v91 : FVec F S64x576 .f32) :
    k1_pay60 v91 = (putOut (marks (k1_pay58 v91) (k1_pay59 v91)) (k1_pay58 v91)) := rfl

/-- A value of the second call: in terms of the rounds. -/
theorem pay61_eq (v91 : FVec F S64x576 .f32) :
    k1_pay61 v91 = (least (k1_pay60 v91)) := rfl

/-- A value of the second call: in terms of the rounds. -/
theorem pay62_eq (v91 : FVec F S64x576 .f32) :
    k1_pay62 v91 = (addf (addf (addf (broadcast S64x1 (Scalar.ofBits .f32 0x00000000#32)) (k1_pay57 v91)) (k1_pay59 v91)) (k1_pay61 v91)) := rfl

/-- A value of the second call: in terms of the rounds. -/
theorem pay63_eq (v91 : FVec F S64x576 .f32) :
    k1_pay63 v91 = mins (putOut (marks (k1_pay60 v91) (k1_pay61 v91)) (k1_pay60 v91)) := rfl

/-- A value of the second call: in terms of the rounds. -/
theorem pay64_eq (v258 : FVec F S64x1 .f32) (v263 : FVec F S64 .f32) :
    k1_pay64 v258 v263 = (colTotal (addf v258 (colOf v263))) := rfl

/-- A value of the second call: in terms of the rounds. -/
theorem pay65_eq (v93 : FVec F S64x576 .f32) :
    k1_pay65 v93 = (marks v93 (least v93)) := rfl

/-- A value of the second call: in terms of the rounds. -/
theorem pay66_eq (v93 : FVec F S64x576 .f32) :
    k1_pay66 v93 = (putOut (k1_pay65 v93) v93) := rfl

/-- A value of the second call: in terms of the rounds. -/
theorem pay67_eq (v93 : FVec F S64x576 .f32) :
    k1_pay67 v93 = (marks (k1_pay66 v93) (least (k1_pay66 v93))) := rfl

/-- A value of the second call: in terms of the rounds. -/
theorem pay68_eq (v93 : FVec F S64x576 .f32) :
    k1_pay68 v93 = (putOut (k1_pay67 v93) (k1_pay66 v93)) := rfl

/-- A value of the second call: in terms of the rounds. -/
theorem pay69_eq (v93 : FVec F S64x576 .f32) :
    k1_pay69 v93 = (marks (k1_pay68 v93) (least (k1_pay68 v93))) := rfl

/-- A value of the second call: in terms of the rounds. -/
theorem pay70_eq (v93 : FVec F S64x576 .f32) (v97 : FVec F S64x576 .f32) :
    k1_pay70 v93 v97 = (addf (addf (addf (broadcast S64x1 (Scalar.ofBits .f32 0x00000000#32)) (pickAt (k1_pay65 v93) v97)) (pickAt (k1_pay67 v93) v97)) (pickAt (k1_pay69 v93) v97)) := rfl

/-- A value of the second call: in terms of the rounds. -/
theorem pay71_eq (v93 : FVec F S64x576 .f32) :
    k1_pay71 v93 = (putOut (k1_pay69 v93) (k1_pay68 v93)) := rfl

/-- A value of the second call: in terms of the rounds. -/
theorem pay72_eq (v93 : FVec F S64x576 .f32) :
    k1_pay72 v93 = (marks (k1_pay71 v93) (least (k1_pay71 v93))) := rfl

/-- A value of the second call: in terms of the rounds. -/
theorem pay73_eq (v303 : FVec F S64x576 .f32) (v307 : IVec S64x576 1) :
    k1_pay73 v303 v307 = (putOut v307 v303) := rfl

/-- A value of the second call: in terms of the rounds. -/
theorem pay74_eq (v303 : FVec F S64x576 .f32) (v307 : IVec S64x576 1) :
    k1_pay74 v303 v307 = (marks (k1_pay73 v303 v307) (least (k1_pay73 v303 v307))) := rfl

/-- A value of the second call: in terms of the rounds. -/
theorem pay75_eq (v303 : FVec F S64x576 .f32) (v307 : IVec S64x576 1) :
    k1_pay75 v303 v307 = (putOut (k1_pay74 v303 v307) (k1_pay73 v303 v307)) := rfl

/-- A value of the second call: in terms of the rounds. -/
theorem pay76_eq (v303 : FVec F S64x576 .f32) (v307 : IVec S64x576 1) :
    k1_pay76 v303 v307 = (marks (k1_pay75 v303 v307) (least (k1_pay75 v303 v307))) := rfl

/-- A value of the second call: in terms of the rounds. -/
theorem pay77_eq (v303 : FVec F S64x576 .f32) (v307 : IVec S64x576 1) :
    k1_pay77 v303 v307 = (putOut (k1_pay76 v303 v307) (k1_pay75 v303 v307)) := rfl

/-- A value of the second call: in terms of the rounds. -/
theorem pay78_eq (v303 : FVec F S64x576 .f32) (v307 : IVec S64x576 1) :
    k1_pay78 v303 v307 = (marks (k1_pay77 v303 v307) (least (k1_pay77 v303 v307))) := rfl

/-- A value of the second call: in terms of the rounds. -/
theorem pay79_eq (v97 : FVec F S64x576 .f32) (v301 : FVec F S64x1 .f32) (v303 : FVec F S64x576 .f32) (v307 : IVec S64x576 1) :
    k1_pay79 v97 v301 v303 v307 (Scalar.ofBits .f32 0x00000000#32) = (addf (addf (addf (addf v301 (pickAt v307 v97)) (pickAt (k1_pay74 v303 v307) v97)) (pickAt (k1_pay76 v303 v307) v97)) (pickAt (k1_pay78 v303 v307) v97)) := rfl

/-- A value of the second call: in terms of the rounds. -/
theorem pay80_eq (v303 : FVec F S64x576 .f32) (v307 : IVec S64x576 1) :
    k1_pay80 v303 v307 = (putOut (k1_pay78 v303 v307) (k1_pay77 v303 v307)) := rfl

/-- A value of the second call: in terms of the rounds. -/
theorem pay81_eq (v303 : FVec F S64x576 .f32) (v307 : IVec S64x576 1) :
    k1_pay81 v303 v307 = (marks (k1_pay80 v303 v307) (least (k1_pay80 v303 v307))) := rfl

/-- A value of the second call: in terms of the rounds. -/
theorem pay82_eq (v347 : FVec F S64x576 .f32) (v351 : IVec S64x576 1) :
    k1_pay82 v347 v351 = (putOut v351 v347) := rfl

/-- A value of the second call: in terms of the rounds. -/
theorem pay83_eq (v347 : FVec F S64x576 .f32) (v351 : IVec S64x576 1) :
    k1_pay83 v347 v351 = (marks (k1_pay82 v347 v351) (least (k1_pay82 v347 v351))) := rfl

/-- A value of the second call: in terms of the rounds. -/
theorem pay84_eq (v347 : FVec F S64x576 .f32) (v351 : IVec S64x576 1) :
    k1_pay84 v347 v351 = (putOut (k1_pay83 v347 v351) (k1_pay82 v347 v351)) := rfl

/-- A value of the second call: in terms of the rounds. -/
theorem pay85_eq (v347 : FVec F S64x576 .f32) (v351 : IVec S64x576 1) :
    k1_pay85 v347 v351 = (marks (k1_pay84 v347 v351) (least (k1_pay84 v347 v351))) := rfl

/-- A value of the second call: in terms of the rounds. -/
theorem pay86_eq (v347 : FVec F S64x576 .f32) (v351 : IVec S64x576 1) :
    k1_pay86 v347 v351 = (putOut (k1_pay85 v347 v351) (k1_pay84 v347 v351)) := rfl

/-- A value of the second call: in terms of the rounds. -/
theorem pay87_eq (v347 : FVec F S64x576 .f32) (v351 : IVec S64x576 1) :
    k1_pay87 v347 v351 = (marks (k1_pay86 v347 v351) (least (k1_pay86 v347 v351))) := rfl

/-- A value of the second call: in terms of the rounds. -/
theorem pay88_eq (v97 : FVec F S64x576 .f32) (v345 : FVec F S64x1 .f32) (v347 : FVec F S64x576 .f32) (v351 : IVec S64x576 1) :
    k1_pay88 v97 v345 v347 v351 (Scalar.ofBits .f32 0x00000000#32) = (addf (addf (addf (addf v345 (pickAt v351 v97)) (pickAt (k1_pay83 v347 v351) v97)) (pickAt (k1_pay85 v347 v351) v97)) (pickAt (k1_pay87 v347 v351) v97)) := rfl

/-- A value of the second call: in terms of the rounds. -/
theorem pay89_eq (v347 : FVec F S64x576 .f32) (v351 : IVec S64x576 1) :
    k1_pay89 v347 v351 = (putOut (k1_pay87 v347 v351) (k1_pay86 v347 v351)) := rfl

/-- A value of the second call: in terms of the rounds. -/
theorem pay90_eq (v347 : FVec F S64x576 .f32) (v351 : IVec S64x576 1) :
    k1_pay90 v347 v351 = (marks (k1_pay89 v347 v351) (least (k1_pay89 v347 v351))) := rfl

/-- A value of the second call: in terms of the rounds. -/
theorem pay91_eq (v391 : FVec F S64x576 .f32) (v395 : IVec S64x576 1) :
    k1_pay91 v391 v395 = (putOut v395 v391) := rfl

/-- A value of the second call: in terms of the rounds. -/
theorem pay92_eq (v391 : FVec F S64x576 .f32) (v395 : IVec S64x576 1) :
    k1_pay92 v391 v395 = (marks (k1_pay91 v391 v395) (least (k1_pay91 v391 v395))) := rfl

/-- A value of the second call: in terms of the rounds. -/
theorem pay93_eq (v391 : FVec F S64x576 .f32) (v395 : IVec S64x576 1) :
    k1_pay93 v391 v395 = (putOut (k1_pay92 v391 v395) (k1_pay91 v391 v395)) := rfl

/-- A value of the second call: in terms of the rounds. -/
theorem pay94_eq (v391 : FVec F S64x576 .f32) (v395 : IVec S64x576 1) :
    k1_pay94 v391 v395 = (marks (k1_pay93 v391 v395) (least (k1_pay93 v391 v395))) := rfl

/-- A value of the second call: in terms of the rounds. -/
theorem pay95_eq (v391 : FVec F S64x576 .f32) (v395 : IVec S64x576 1) :
    k1_pay95 v391 v395 = (putOut (k1_pay94 v391 v395) (k1_pay93 v391 v395)) := rfl

/-- A value of the second call: in terms of the rounds. -/
theorem pay96_eq (v391 : FVec F S64x576 .f32) (v395 : IVec S64x576 1) :
    k1_pay96 v391 v395 = (marks (k1_pay95 v391 v395) (least (k1_pay95 v391 v395))) := rfl

/-- A value of the second call: in terms of the rounds. -/
theorem pay97_eq (v97 : FVec F S64x576 .f32) (v389 : FVec F S64x1 .f32) (v391 : FVec F S64x576 .f32) (v395 : IVec S64x576 1) :
    k1_pay97 v97 v389 v391 v395 (Scalar.ofBits .f32 0x00000000#32) = (addf (addf (addf (addf v389 (pickAt v395 v97)) (pickAt (k1_pay92 v391 v395) v97)) (pickAt (k1_pay94 v391 v395) v97)) (pickAt (k1_pay96 v391 v395) v97)) := rfl

/-- A value of the second call: in terms of the rounds. -/
theorem pay98_eq (v391 : FVec F S64x576 .f32) (v395 : IVec S64x576 1) :
    k1_pay98 v391 v395 = (putOut (k1_pay96 v391 v395) (k1_pay95 v391 v395)) := rfl

/-- A value of the second call: in terms of the rounds. -/
theorem pay99_eq (v391 : FVec F S64x576 .f32) (v395 : IVec S64x576 1) :
    k1_pay99 v391 v395 = (marks (k1_pay98 v391 v395) (least (k1_pay98 v391 v395))) := rfl

/-- A value of the second call: in terms of the rounds. -/
theorem pay100_eq (v435 : FVec F S64x576 .f32) (v439 : IVec S64x576 1) :
    k1_pay100 v435 v439 = (putOut v439 v435) := rfl

/-- A value of the second call: in terms of the rounds. -/
theorem pay101_eq (v435 : FVec F S64x576 .f32) (v439 : IVec S64x576 1) :
    k1_pay101 v435 v439 = (marks (k1_pay100 v435 v439) (least (k1_pay100 v435 v439))) := rfl

/-- A value of the second call: in terms of the rounds. -/
theorem pay102_eq (v435 : FVec F S64x576 .f32) (v439 : IVec S64x576 1) :
    k1_pay102 v435 v439 = (putOut (k1_pay101 v435 v439) (k1_pay100 v435 v439)) := rfl

/-- A value of the second call: in terms of the rounds. -/
theorem pay103_eq (v435 : FVec F S64x576 .f32) (v439 : IVec S64x576 1) :
    k1_pay103 v435 v439 = (marks (k1_pay102 v435 v439) (least (k1_pay102 v435 v439))) := rfl

/-- A value of the second call: in terms of the rounds. -/
theorem pay104_eq (v435 : FVec F S64x576 .f32) (v439 : IVec S64x576 1) :
    k1_pay104 v435 v439 = (putOut (k1_pay103 v435 v439) (k1_pay102 v435 v439)) := rfl

/-- A value of the second call: in terms of the rounds. -/
theorem pay105_eq (v435 : FVec F S64x576 .f32) (v439 : IVec S64x576 1) :
    k1_pay105 v435 v439 = (marks (k1_pay104 v435 v439) (least (k1_pay104 v435 v439))) := rfl

/-- A value of the second call: in terms of the rounds. -/
theorem pay106_eq (v97 : FVec F S64x576 .f32) (v433 : FVec F S64x1 .f32) (v435 : FVec F S64x576 .f32) (v439 : IVec S64x576 1) :
    k1_pay106 v97 v433 v435 v439 (Scalar.ofBits .f32 0x00000000#32) = (addf (addf (addf (addf v433 (pickAt v439 v97)) (pickAt (k1_pay101 v435 v439) v97)) (pickAt (k1_pay103 v435 v439) v97)) (pickAt (k1_pay105 v435 v439) v97)) := rfl

/-- A value of the second call: in terms of the rounds. -/
theorem pay107_eq (v435 : FVec F S64x576 .f32) (v439 : IVec S64x576 1) :
    k1_pay107 v435 v439 = (marks (putOut (k1_pay105 v435 v439) (k1_pay104 v435 v439)) (least (putOut (k1_pay105 v435 v439) (k1_pay104 v435 v439)))) := rfl

/-- A value of the second call: in terms of the rounds. -/
theorem pay108_eq (v97 : FVec F S64x576 .f32) (v477 : FVec F S64x1 .f32) (v483 : IVec S64x576 1) :
    k1_pay108 v97 v477 v483 (Scalar.ofBits .f32 0x00000000#32) = (colTotal (addf v477 (pickAt v483 v97))) := rfl

/-- A value of the second call: in terms of the rounds. -/
theorem pay109_eq (v95 : FVec F S64x576 .f32) :
    k1_pay109 v95 = (marks v95 (least v95)) := rfl

/-- A value of the second call: in terms of the rounds. -/
theorem pay110_eq (v95 : FVec F S64x576 .f32) :
    k1_pay110 v95 = (putOut (k1_pay109 v95) v95) := rfl

/-- A value of the second call: in terms of the rounds. -/
theorem pay111_eq (v95 : FVec F S64x576 .f32) :
    k1_pay111 v95 = (marks (k1_pay110 v95) (least (k1_pay110 v95))) := rfl

/-- A value of the second call: in terms of the rounds. -/
theorem pay112_eq (v95 : FVec F S64x576 .f32) :
    k1_pay112 v95 = (putOut (k1_pay111 v95) (k1_pay110 v95)) := rfl

/-- A value of the second call: in terms of the rounds. -/
theorem pay113_eq (v95 : FVec F S64x576 .f32) :
    k1_pay113 v95 = (marks (k1_pay112 v95) (least (k1_pay112 v95))) := rfl

/-- A value of the second call: in terms of the rounds. -/
theorem pay114_eq (v95 : FVec F S64x576 .f32) (v99 : FVec F S64x576 .f32) :
    k1_pay114 v95 v99 = (addf (addf (addf (broadcast S64x1 (Scalar.ofBits .f32 0x00000000#32)) (pickAt (k1_pay109 v95) v99)) (pickAt (k1_pay111 v95) v99)) (pickAt (k1_pay113 v95) v99)) := rfl

/-- A value of the second call: in terms of the rounds. -/
theorem pay115_eq (v95 : FVec F S64x576 .f32) :
    k1_pay115 v95 = (putOut (k1_pay113 v95) (k1_pay112 v95)) := rfl

/-- A value of the second call: in terms of the rounds. -/
theorem pay116_eq (v95 : FVec F S64x576 .f32) :
    k1_pay116 v95 = mins (k1_pay115 v95) := rfl

/-- The second call's last value: the four totals and the global loss put together. -/
theorem pay1_eq (v87 : F .f32) (v99 : FVec F S64x576 .f32) (v240 v269 v492 : F .f32) (v524 : FVec F S64x1 .f32)
    (v526 : FVec F S64x576 .f32) (v527 : FVec F S64 .f32) :
    k1_pay1 v87 v99 v240 v269 v492 v524 v526 v527 = fun _ => combine v87 v240 v269 v492
      (colTotal (addf v524 (pickAt (marks v526 (colOf v527)) v99))) := rfl

/-- The second call's output block is that value. -/
theorem out1_8_eq (x0 x1 : FVec F S64x8192 .f32) (x2 x3 x4 x5 x6 x7 : FVec F S64x576 .f32) :
    out1_8 x0 x1 x2 x3 x4 x5 x6 x7 = fun _ => stored x0 x1 x2 x3 x4 x5 x6 x7 := by
  unfold out1_8
  rw [View.canon_unit_zero (S := S1x1) zeros2]
  simp only [k1_pay134, k1_pay133, k1_pay132, k1_pay131, k1_pay130, k1_pay129, k1_pay128, k1_pay127, k1_pay126,
    k1_pay125, k1_pay124, k1_pay123, k1_pay122, k1_pay121, k1_pay120, k1_pay119, k1_pay118, k1_pay117,
    View.ld_unit_zero (S := S64x8192) zeros2, View.ld_unit_zero (S := S64x576) zeros2]
  rw [pay1_eq]
  simp only [pay13_eq, pay14_eq, pay15_eq, pay16_eq, pay17_eq, pay18_eq, pay19_eq, pay20_eq, pay21_eq, pay22_eq, pay23_eq, pay24_eq, pay25_eq, pay26_eq, pay27_eq, pay28_eq, pay29_eq, pay30_eq, pay31_eq, pay32_eq, pay33_eq, pay34_eq, pay35_eq, pay36_eq, pay37_eq, pay38_eq, pay39_eq, pay40_eq, pay41_eq, pay42_eq, pay43_eq, pay44_eq, pay45_eq, pay46_eq, pay47_eq, pay48_eq, pay49_eq, pay50_eq, pay51_eq, pay52_eq, pay53_eq, pay54_eq, pay55_eq, pay56_eq, pay57_eq, pay58_eq, pay59_eq, pay60_eq, pay61_eq, pay62_eq, pay63_eq, pay64_eq, pay65_eq, pay66_eq, pay67_eq, pay68_eq, pay69_eq, pay70_eq, pay71_eq, pay72_eq, pay73_eq, pay74_eq, pay75_eq, pay76_eq, pay77_eq, pay78_eq, pay79_eq, pay80_eq, pay81_eq, pay82_eq, pay83_eq, pay84_eq, pay85_eq, pay86_eq, pay87_eq, pay88_eq, pay89_eq, pay90_eq, pay91_eq, pay92_eq, pay93_eq, pay94_eq, pay95_eq, pay96_eq, pay97_eq, pay98_eq, pay99_eq, pay100_eq, pay101_eq, pay102_eq, pay103_eq, pay104_eq, pay105_eq, pay106_eq, pay107_eq, pay108_eq, pay109_eq, pay110_eq, pay111_eq, pay112_eq, pay113_eq, pay114_eq, pay115_eq, pay116_eq]
  simp only [stored, rounds, keySum, valSum, globalLoss, least]

end Cert.KFinal
-- ==== Proof.Math.lean ====
module

public import Idealize.ShloMosaic.PureOps.Ideal.Laws
public import Idealize.ShloMosaic.Lib.IdealHost

@[expose] public section

noncomputable section

/-! The mathematics both programs compute: least entries of rows, the sum of a value over the `k` least keys, and the
    identities between the two spellings of the covariance loss. -/

namespace Cert.Math

open Idealize.ShloMosaic

/-! ### Extended reals that are reals -/

/-- A sum of reals, read as extended reals. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A quotient of reals by a nonzero real. -/
theorem div_real (a : ℝ) {b : ℝ} (h : b ≠ 0) : Ideal.div (a : EReal) (b : EReal) = ((a / b : ℝ) : EReal) := by
  rw [Ideal.div_coe h, ← EReal.coe_mul]; congr 1; ring

/-- The square root of a nonnegative real. -/
theorem sqrt_real {a : ℝ} (h : 0 ≤ a) : Ideal.sqrt (a : EReal) = ((Real.sqrt a : ℝ) : EReal) := by
  show (if a < 0 then ⊥ else (Real.sqrt a : EReal)) = _
  rw [if_neg (not_lt.mpr h)]

/-- The greater of two reals. -/
theorem max_real (a b : ℝ) : max (a : EReal) (b : EReal) = ((max a b : ℝ) : EReal) := by
  rcases le_total a b with h | h
  · rw [max_eq_right h, max_eq_right (by exact_mod_cast h)]
  · rw [max_eq_left h, max_eq_left (by exact_mod_cast h)]

/-- A fold of `min` from `⊤` is the entry no other is below. -/
theorem fold_min_eq {ι : Type} [Fintype ι] (g : ι → EReal) (i₀ : ι) (h : ∀ i, g i₀ ≤ g i) :
    Finset.univ.fold min ⊤ g = g i₀ := by
  apply le_antisymm
  · exact (Finset.le_fold_min (b := (⊤ : EReal)) (f := g) (s := Finset.univ) _).mp le_rfl |>.2 i₀ (Finset.mem_univ _)
  · exact (Finset.le_fold_min _).mpr ⟨le_top, fun i _ => h i⟩

/-! ### The constants' words -/

/-- The value of a constant's word. -/
theorem w_inf : Ideal.ofBits .f32 0x7F800000#32 = ⊤ := by simp [Ideal.ofBits, Ideal.ieee]
/-- The value of a constant's word. -/
theorem w_1 : Ideal.ofBits .f32 0x3F800000#32 = ((1 : ℝ) : EReal) := by
  simp [Ideal.ofBits, Ideal.ieee]; norm_num; rw [← EReal.coe_mul]; norm_num
/-- The value of a constant's word. -/
theorem w_2 : Ideal.ofBits .f32 0x40000000#32 = ((2 : ℝ) : EReal) := by
  simp [Ideal.ofBits, Ideal.ieee]; norm_num; rw [← EReal.coe_mul]; norm_num
/-- The value of a constant's word. -/
theorem w_64 : Ideal.ofBits .f32 0x42800000#32 = ((64 : ℝ) : EReal) := by
  simp [Ideal.ofBits, Ideal.ieee]; norm_num; rw [← EReal.coe_mul]; norm_num
/-- The value of a constant's word. -/
theorem w_63 : Ideal.ofBits .f32 0x427C0000#32 = ((63 : ℝ) : EReal) := by
  simp [Ideal.ofBits, Ideal.ieee]; norm_num; rw [← EReal.coe_mul]; norm_num
/-- The value of a constant's word. -/
theorem w_8192 : Ideal.ofBits .f32 0x46000000#32 = ((8192 : ℝ) : EReal) := by
  simp [Ideal.ofBits, Ideal.ieee]; norm_num; rw [← EReal.coe_mul]; norm_num
/-- The value of a constant's word. -/
theorem w_524288 : Ideal.ofBits .f32 0x49000000#32 = ((524288 : ℝ) : EReal) := by
  simp [Ideal.ofBits, Ideal.ieee]; norm_num; rw [← EReal.coe_mul]; norm_num
/-- The value of a constant's word. -/
theorem w_cov : Ideal.ofBits .f32 0x4BF81000#32 = ((32514048 : ℝ) : EReal) := by
  simp [Ideal.ofBits, Ideal.ieee]; norm_num; rw [← EReal.coe_mul]; norm_num
/-- The value of a constant's word. -/
theorem w_25 : Ideal.ofBits .f32 0x41C80000#32 = ((25 : ℝ) : EReal) := by
  simp [Ideal.ofBits, Ideal.ieee]; norm_num; rw [← EReal.coe_mul]; norm_num
/-- The value of a constant's word. -/
theorem w_12_5 : Ideal.ofBits .f32 0x41480000#32 = ((12.5 : ℝ) : EReal) := by
  simp [Ideal.ofBits, Ideal.ieee]; norm_num; rw [← EReal.coe_mul]; norm_num
/-- The value of a constant's word. -/
theorem w_half : Ideal.ofBits .f32 0x3F000000#32 = ((0.5 : ℝ) : EReal) := by
  simp [Ideal.ofBits, Ideal.ieee]; norm_num; rw [← EReal.coe_mul]; norm_num
/-- The value of a constant's word. -/
theorem w_quarter : Ideal.ofBits .f32 0x3E800000#32 = ((0.25 : ℝ) : EReal) := by
  simp [Ideal.ofBits, Ideal.ieee]; norm_num; rw [← EReal.coe_mul]; norm_num
/-- The value of a constant's word. -/
theorem w_3quarter : Ideal.ofBits .f32 0x3F400000#32 = ((0.75 : ℝ) : EReal) := by
  simp [Ideal.ofBits, Ideal.ieee]; norm_num; rw [← EReal.coe_mul]; norm_num
/-- The value of a constant's word. -/
theorem w_20 : Ideal.ofBits .f32 0x49F00000#32 = ((1966080 : ℝ) : EReal) := by
  simp [Ideal.ofBits, Ideal.ieee]; norm_num; rw [← EReal.coe_mul]; norm_num
/-- The value of a constant's word. -/
theorem w_4 : Ideal.ofBits .f32 0x48C00000#32 = ((393216 : ℝ) : EReal) := by
  simp [Ideal.ofBits, Ideal.ieee]; norm_num; rw [← EReal.coe_mul]; norm_num
/-- The variance loss's small constant, exactly. -/
def eps : ℝ := 13743895 * (2 : ℝ) ^ (-37 : ℤ)
/-- The value of a constant's word. -/
theorem w_eps : Ideal.ofBits .f32 0x38D1B717#32 = ((eps : ℝ) : EReal) := by
  simp [Ideal.ofBits, Ideal.ieee, eps]
/-- The small constant is positive. -/
theorem eps_pos : 0 < eps := by unfold eps; positivity

/-! ### The `k` least keys of a row -/

/-- How many keys are below the key at `i`. -/
def rank {n : Nat} (key : Fin n → ℝ) (i : Fin n) : Nat := (Finset.univ.filter fun j => key j < key i).card

/-- The sum of a value over the `k` least keys. -/
def selSum {n : Nat} (k : Nat) (key val : Fin n → ℝ) : ℝ := ∑ i, if rank key i < k then val i else 0

/-- Ranks are ordered as the keys are. -/
theorem rank_lt_iff {n : Nat} (key : Fin n → ℝ) (i j : Fin n) : rank key i < rank key j ↔ key i < key j := by
  constructor
  · intro h
    by_contra hc
    push Not at hc
    refine absurd h (not_lt.mpr (Finset.card_le_card fun x hx => ?_))
    simp only [Finset.mem_filter, Finset.mem_univ, true_and] at hx ⊢
    exact lt_of_lt_of_le hx hc
  · intro h
    apply Finset.card_lt_card
    refine ⟨fun x hx => ?_, fun hs => ?_⟩
    · simp only [Finset.mem_filter, Finset.mem_univ, true_and] at hx ⊢
      exact hx.trans h
    · have := hs (Finset.mem_filter.mpr ⟨Finset.mem_univ i, h⟩)
      simp at this

/-- A rank is less than the number of keys. -/
theorem rank_lt {n : Nat} (key : Fin n → ℝ) (i : Fin n) : rank key i < n := by
  have h : (Finset.univ.filter fun j => key j < key i) ⊂ Finset.univ := by
    refine ⟨Finset.subset_univ _, fun hs => ?_⟩
    have := hs (Finset.mem_univ i)
    simp at this
  simpa [rank] using Finset.card_lt_card h

/-- Different keys have different ranks. -/
theorem rank_injective {n : Nat} {key : Fin n → ℝ} (hk : Function.Injective key) : Function.Injective (rank key) := by
  intro i j h
  apply hk
  rcases lt_trichotomy (key i) (key j) with h' | h' | h'
  · exact absurd h ((rank_lt_iff key i j).mpr h').ne
  · exact h'
  · exact absurd h ((rank_lt_iff key j i).mpr h').ne'

/-- With distinct keys every rank below `n` is some key's. -/
theorem exists_rank {n : Nat} {key : Fin n → ℝ} (hk : Function.Injective key) {t : Nat} (ht : t < n) :
    ∃ i, rank key i = t := by
  have hb : Function.Bijective (fun i => (⟨rank key i, rank_lt key i⟩ : Fin n)) :=
    (Finite.injective_iff_bijective).mp fun i j h => rank_injective hk (by simpa using h)
  obtain ⟨i, hi⟩ := hb.2 ⟨t, ht⟩
  exact ⟨i, by simpa using congrArg Fin.val hi⟩

/-- A row after `t` rounds of putting its least entry out of the way. -/
def rowRounds {n : Nat} (k : Fin n → EReal) : Nat → Fin n → EReal
  | 0 => k
  | t + 1 => fun j => if rowRounds k t j = Finset.univ.fold min ⊤ (rowRounds k t) then ⊤ else rowRounds k t j

/-- The least entry while every smaller rank is out of the way. -/
theorem fold_min_rank {n : Nat} {key : Fin n → ℝ} (t : Nat) (i₀ : Fin n) (hi : rank key i₀ = t) :
    Finset.univ.fold min ⊤ (fun i => if rank key i < t then (⊤ : EReal) else (key i : EReal)) = (key i₀ : EReal) := by
  have := fold_min_eq (fun i => if rank key i < t then (⊤ : EReal) else (key i : EReal)) i₀ (fun i => by
    simp only [hi, lt_irrefl, if_false]
    split
    · exact le_top
    · rename_i h
      have : ¬ key i < key i₀ := fun hc => h (by rw [← hi]; exact (rank_lt_iff _ _ _).mpr hc)
      exact_mod_cast not_lt.mp this)
  rw [this]; simp [hi]

/-- After `t` rounds the keys of rank below `t` are out of the way and the others stand. -/
theorem rowRounds_eq {n : Nat} {key : Fin n → ℝ} (hk : Function.Injective key) (t : Nat) (ht : t ≤ n) :
    rowRounds (fun i => (key i : EReal)) t = fun i => if rank key i < t then (⊤ : EReal) else (key i : EReal) := by
  induction t with
  | zero => funext i; simp [rowRounds]
  | succ t ih =>
    obtain ⟨i₀, hi⟩ := exists_rank hk (t := t) (by omega)
    funext j
    simp only [rowRounds]
    rw [ih (by omega), fold_min_rank t i₀ hi]
    by_cases h1 : rank key j < t
    · simp [h1, Nat.lt_succ_of_lt h1]
    · simp only [h1, if_false]
      by_cases h2 : j = i₀
      · subst h2; simp [hi]
      · have h3 : ¬ rank key j = t := fun h => h2 (rank_injective hk (h.trans hi.symm))
        have h4 : ¬ rank key j < t + 1 := by omega
        have h5 : key j ≠ key i₀ := fun h => h2 (hk h)
        rw [if_neg (by exact_mod_cast h5), if_neg h4]

/-- The least entry at round `t` is the key of rank `t`. -/
theorem fold_rowRounds {n : Nat} {key : Fin n → ℝ} (hk : Function.Injective key) (t : Nat) (i₀ : Fin n)
    (hi : rank key i₀ = t) :
    Finset.univ.fold min ⊤ (rowRounds (fun i => (key i : EReal)) t) = (key i₀ : EReal) := by
  rw [rowRounds_eq hk t (by have := rank_lt key i₀; omega), fold_min_rank t i₀ hi]

/-- At round `t` only the key of rank `t` is the row's least. -/
theorem rowRounds_hit {n : Nat} {key : Fin n → ℝ} (hk : Function.Injective key) (t : Nat) (i₀ : Fin n)
    (hi : rank key i₀ = t) (j : Fin n) :
    rowRounds (fun i => (key i : EReal)) t j = Finset.univ.fold min ⊤ (rowRounds (fun i => (key i : EReal)) t)
      ↔ j = i₀ := by
  rw [fold_rowRounds hk t i₀ hi, rowRounds_eq hk t (by have := rank_lt key i₀; omega)]
  dsimp only
  constructor
  · intro h
    split at h
    · exact absurd h (by simp)
    · exact hk (by exact_mod_cast h)
  · rintro rfl; simp [hi]

/-- One more rank adds the value at that rank. -/
theorem selSum_succ {n : Nat} {key : Fin n → ℝ} (hk : Function.Injective key) (val : Fin n → ℝ) (t : Nat) (i₀ : Fin n)
    (hi : rank key i₀ = t) : selSum (t + 1) key val = selSum t key val + val i₀ := by
  have : ∀ i, (if rank key i < t + 1 then val i else 0)
      = (if rank key i < t then val i else 0) + (if i = i₀ then val i else 0) := by
    intro i
    by_cases h : i = i₀
    · subst h; simp [hi]
    · have h3 : ¬ rank key i = t := fun h' => h (rank_injective hk (h'.trans hi.symm))
      by_cases h1 : rank key i < t
      · simp [h1, h, Nat.lt_succ_of_lt h1]
      · have h4 : ¬ rank key i < t + 1 := by omega
        simp [h1, h, h4]
  simp only [selSum, this, Finset.sum_add_distrib, Finset.sum_ite_eq', Finset.mem_univ, if_true]

/-- A selection of nothing adds up to zero. -/
theorem selSum_zero {n : Nat} (key val : Fin n → ℝ) : selSum 0 key val = 0 := by simp [selSum]

/-- Along an order in which the keys increase, the first `k` places hold the `k` least keys. -/
theorem selSum_sorted {n k : Nat} (hkn : k ≤ n) {key : Fin n → ℝ} (τ : Fin n → Fin n) (hτ : Function.Bijective τ)
    (hm : ∀ p q : Fin n, p < q → key (τ p) < key (τ q)) (val : Fin n → ℝ) :
    ∑ p : Fin k, val (τ (Fin.castLE hkn p)) = selSum k key val := by
  have hr : ∀ p, rank key (τ p) = p := by
    intro p
    have : (Finset.univ.filter fun j => key j < key (τ p)) = (Finset.univ.filter fun q : Fin n => q < p).map ⟨τ, hτ.1⟩ := by
      ext j
      obtain ⟨q, rfl⟩ := hτ.2 j
      simp only [Finset.mem_filter, Finset.mem_univ, true_and, Finset.mem_map, Function.Embedding.coeFn_mk]
      constructor
      · intro h
        refine ⟨q, ?_, rfl⟩
        by_contra hc
        rcases (not_lt.mp hc).lt_or_eq with h' | h'
        · exact absurd h (not_lt.mpr (hm _ _ h').le)
        · subst h'; exact lt_irrefl _ h
      · rintro ⟨q', h, he⟩
        rw [← hτ.1 he] ; exact hm _ _ h
    rw [rank, this, Finset.card_map]
    rw [← Finset.card_range (p : Nat)]
    refine Finset.card_nbij (fun q => (q : Nat)) (fun q hq => ?_) (fun a _ b _ h => Fin.ext h) (fun q hq => ?_)
    · have : q < p := by simpa using hq
      simpa using this
    · have hq' : q < (p : Nat) := by simpa using hq
      exact ⟨⟨q, by omega⟩, Finset.mem_coe.mpr (Finset.mem_filter.mpr ⟨Finset.mem_univ _, hq'⟩), rfl⟩
  rw [selSum, ← (Equiv.ofBijective τ hτ).sum_comp]
  simp only [Equiv.ofBijective_apply, hr]
  rw [← Finset.sum_filter]
  refine Finset.sum_nbij (fun p => Fin.castLE hkn p) (fun p _ => by simp) (fun a _ b _ h => by simpa using h)
    (fun q hq => ?_) (fun _ _ => rfl)
  have hq' : (q : Nat) < k := by simpa using hq
  exact ⟨⟨q, hq'⟩, by simp, by ext; simp⟩

/-! ### Squared distances and nearest neighbours -/

/-- The squared distance of row `i` of `x` and row `j` of `y`. -/
def d2 {n m c : Nat} (x : Fin n → Fin c → ℝ) (y : Fin m → Fin c → ℝ) (i : Fin n) (j : Fin m) : ℝ :=
  ∑ k, (x i k - y j k) ^ 2

/-- A squared distance is not negative. -/
theorem d2_nonneg {n m c : Nat} (x : Fin n → Fin c → ℝ) (y : Fin m → Fin c → ℝ) (i : Fin n) (j : Fin m) :
    0 ≤ d2 x y i j := Finset.sum_nonneg fun _ _ => sq_nonneg _

/-- The squared distance is the same both ways. -/
theorem d2_comm {n m c : Nat} (x : Fin n → Fin c → ℝ) (y : Fin m → Fin c → ℝ) (i : Fin n) (j : Fin m) :
    d2 x y i j = d2 y x j i := Finset.sum_congr rfl fun _ _ => by ring

/-- The squared distance from the squared lengths and the inner product. -/
theorem d2_expand {n m c : Nat} (x : Fin n → Fin c → ℝ) (y : Fin m → Fin c → ℝ) (i : Fin n) (j : Fin m) :
    (∑ k, x i k * x i k) + (∑ k, y j k * y j k) - 2 * (∑ k, x i k * y j k) = d2 x y i j := by
  rw [d2, Finset.mul_sum, ← Finset.sum_add_distrib, ← Finset.sum_sub_distrib]
  exact Finset.sum_congr rfl fun _ _ => by ring

/-- Some place is nearest. -/
theorem exists_nn {n m : Nat} (D : Fin n → Fin (m + 1) → ℝ) (i : Fin n) : ∃ j, ∀ j', D i j ≤ D i j' := by
  obtain ⟨j, _, h⟩ := Finset.exists_min_image Finset.univ (D i) ⟨0, Finset.mem_univ _⟩
  exact ⟨j, fun j' => h j' (Finset.mem_univ _)⟩

/-- A column at which row `i` is least. -/
def nn {n m : Nat} (D : Fin n → Fin (m + 1) → ℝ) (i : Fin n) : Fin (m + 1) := (exists_nn D i).choose

/-- No place is nearer than the nearest one. -/
theorem nn_le {n m : Nat} (D : Fin n → Fin (m + 1) → ℝ) (i : Fin n) (j : Fin (m + 1)) : D i (nn D i) ≤ D i j :=
  (exists_nn D i).choose_spec j

/-- A row's least entry. -/
def low {n m : Nat} (D : Fin n → Fin (m + 1) → ℝ) (i : Fin n) : ℝ := D i (nn D i)

/-- The fold of a row's minimum is the nearest distance. -/
theorem fold_low {n m : Nat} (D : Fin n → Fin (m + 1) → ℝ) (i : Fin n) :
    Finset.univ.fold min ⊤ (fun j => ((D i j : ℝ) : EReal)) = ((low D i : ℝ) : EReal) :=
  fold_min_eq (fun j => ((D i j : ℝ) : EReal)) (nn D i) fun j => by exact_mod_cast nn_le D i j

/-- A place that none is nearer than is at the nearest distance. -/
theorem eq_low {n m : Nat} (D : Fin n → Fin (m + 1) → ℝ) (i : Fin n) (j : Fin (m + 1)) (h : ∀ j', D i j ≤ D i j') :
    D i j = low D i := le_antisymm (h _) (nn_le D i j)

/-! ### The covariance loss -/

/-- The sum of the squares of all the products of columns is that of the products of rows. -/
theorem gram {n d : Nat} (x : Fin n → Fin d → ℝ) :
    ∑ i, ∑ j, (∑ b, x b i * x b j) ^ 2 = ∑ a, ∑ b, (∑ i, x a i * x b i) ^ 2 := by
  have e1 : ∀ i j, (∑ b, x b i * x b j) ^ 2 = ∑ a, ∑ b, x a i * x a j * (x b i * x b j) := by
    intro i j; rw [sq, Finset.sum_mul_sum]
  have e2 : ∀ a b, (∑ i, x a i * x b i) ^ 2 = ∑ i, ∑ j, x a i * x a j * (x b i * x b j) := by
    intro a b; rw [sq, Finset.sum_mul_sum]
    exact Finset.sum_congr rfl fun i _ => Finset.sum_congr rfl fun j _ => by ring
  simp only [e1, e2]
  calc ∑ i, ∑ j, ∑ a, ∑ b, x a i * x a j * (x b i * x b j)
      = ∑ i, ∑ a, ∑ j, ∑ b, x a i * x a j * (x b i * x b j) :=
        Finset.sum_congr rfl fun i _ => Finset.sum_comm
    _ = ∑ a, ∑ i, ∑ j, ∑ b, x a i * x a j * (x b i * x b j) := Finset.sum_comm
    _ = ∑ a, ∑ i, ∑ b, ∑ j, x a i * x a j * (x b i * x b j) :=
        Finset.sum_congr rfl fun a _ => Finset.sum_congr rfl fun i _ => Finset.sum_comm
    _ = ∑ a, ∑ b, ∑ i, ∑ j, x a i * x a j * (x b i * x b j) :=
        Finset.sum_congr rfl fun a _ => Finset.sum_comm

/-- Taking the diagonal out of a square array takes its squares out of the sum of squares. -/
theorem off_diag {d : Nat} (C : Fin d → Fin d → ℝ) :
    ∑ i, ∑ j, (C i j - if i = j then C i j else 0) ^ 2 = (∑ i, ∑ j, C i j ^ 2) - ∑ i, C i i ^ 2 := by
  have e : ∀ i j, (C i j - if i = j then C i j else 0) ^ 2 = C i j ^ 2 - if i = j then C i j ^ 2 else 0 := by
    intro i j; split <;> simp
  simp only [e, Finset.sum_sub_distrib]
  simp

/-- The covariance loss of a centred array, by columns and by rows. -/
theorem cov_eq {n d : Nat} (x : Fin n → Fin d → ℝ) (m : ℝ) :
    ((∑ i, ∑ j, ((∑ b, x b i * x b j) / m - if i = j then (∑ b, x b i * x b j) / m else 0) ^ 2)) / d
      = ((∑ a, ∑ b, (∑ i, x a i * x b i) * (∑ i, x a i * x b i))
          - ∑ i, (∑ b, x b i * x b i) * (∑ b, x b i * x b i)) / (m * m * d) := by
  rw [off_diag (fun i j => (∑ b, x b i * x b j) / m)]
  simp only [div_pow, ← Finset.sum_div]
  rw [gram x, ← sub_div]
  simp only [← sq]
  rw [div_div]

end Cert.Math
-- ==== Proof.KStats.lean ====
module

public import proofs.«01_k».proof.Proof.KFinal
public import proofs.«01_k».proof.Proof.Math
public import Idealize.ShloMosaic.Lib.Pointwise

@[expose] public section

set_option maxRecDepth 16384

noncomputable section

/-! The first call's block: what it stores for one sample, and the same at exact numbers. -/

namespace Cert.KStats

open Idealize.ShloMosaic Idealize.SL.Sem Cert.KernelIdeal Cert.KernelIdeal.Gen Cert.Math

/-- What is stored for one sample from its two feature maps and its two location maps. -/
def packed {F : FTy → Type} [FloatOps F] (va vb : FVec F S1x576x768 .f32) (la lb : FVec F S1x2x576 .f32) :
    FVec F S1x8x576 .f32 := k0_pay5 (k0_pay2 va vb) (k0_pay3 la lb) (k0_pay4 va vb)

/-- The block the first call leaves: one sample's rows after another. -/
theorem out0_4_eq {F : FTy → Type} [FloatOps F] (x0 x1 : Vec F S4x576x768 .f32) (x2 x3 : Vec F S4x2x576 .f32) :
    out0_4 x0 x1 x2 x3 = View.canon
      [⟨r0_11, packed (View.ld x0 r0_9 : FVec F S1x576x768 .f32) (View.ld x1 r0_9 : FVec F S1x576x768 .f32)
          (View.ld x2 r0_10 : FVec F S1x2x576 .f32) (View.ld x3 r0_10 : FVec F S1x2x576 .f32)⟩,
       ⟨r0_8, packed (View.ld x0 r0_6 : FVec F S1x576x768 .f32) (View.ld x1 r0_6 : FVec F S1x576x768 .f32)
          (View.ld x2 r0_7 : FVec F S1x2x576 .f32) (View.ld x3 r0_7 : FVec F S1x2x576 .f32)⟩,
       ⟨r0_5, packed (View.ld x0 r0_3 : FVec F S1x576x768 .f32) (View.ld x1 r0_3 : FVec F S1x576x768 .f32)
          (View.ld x2 r0_4 : FVec F S1x2x576 .f32) (View.ld x3 r0_4 : FVec F S1x2x576 .f32)⟩,
       ⟨r0_2, packed (View.ld x0 r0_0 : FVec F S1x576x768 .f32) (View.ld x1 r0_0 : FVec F S1x576x768 .f32)
          (View.ld x2 r0_1 : FVec F S1x2x576 .f32) (View.ld x3 r0_1 : FVec F S1x2x576 .f32)⟩] := rfl

/-- Feature distances: from squared lengths and inner products to squared distances. -/
theorem dF_apply (va vb : FVec Ideal S1x576x768 .f32) (x y : Fin 576 → Fin 768 → ℝ)
    (hx : ∀ i c, va (ix3 0 i c) = ((x i c : ℝ) : EReal)) (hy : ∀ i c, vb (ix3 0 i c) = ((y i c : ℝ) : EReal))
    (i j : Fin 576) : k0_pay2 (F := Ideal) va vb (ix2 i j) = ((d2 x y i j : ℝ) : EReal) := by
  unfold_payloads
  pointwise
  simp only [hx, hy, w_2, ← EReal.coe_mul, coe_sum, ← EReal.coe_add, ← EReal.coe_sub, d2_expand]

/-- Location distances: the two coordinate differences, squared and added. -/
theorem dL_apply (la lb : FVec Ideal S1x2x576 .f32) (u v : Fin 576 → Fin 2 → ℝ)
    (hu : ∀ i c, la (ix3 0 c i) = ((u i c : ℝ) : EReal)) (hv : ∀ i c, lb (ix3 0 c i) = ((v i c : ℝ) : EReal))
    (i j : Fin 576) : k0_pay3 (F := Ideal) la lb (ix2 i j) = ((d2 u v i j : ℝ) : EReal) := by
  unfold_payloads
  pointwise
  simp only [hu, hv, ← EReal.coe_mul, ← EReal.coe_add, ← EReal.coe_sub]
  congr 1
  simp only [d2, Fin.sum_univ_two]
  ring

/-- The column of row minima of the feature distances. -/
theorem minF_apply (va vb : FVec Ideal S1x576x768 .f32) (x y : Fin 576 → Fin 768 → ℝ)
    (hx : ∀ i c, va (ix3 0 i c) = ((x i c : ℝ) : EReal)) (hy : ∀ i c, vb (ix3 0 i c) = ((y i c : ℝ) : EReal))
    (i : Fin 576) : k0_pay4 (F := Ideal) va vb (ix2 i 0) = ((low (d2 x y) i : ℝ) : EReal) := by
  unfold_payloads
  pointwise
  simp only [hx, hy, w_2, ← EReal.coe_mul, coe_sum, ← EReal.coe_add, ← EReal.coe_sub, d2_expand]
  simp only [w_inf, fold_low]

variable (f l : FVec Ideal S576x576 .f32) (c : FVec Ideal S576x1 .f32) (i : Fin 576)

/-- Row 0: the given column, not below zero. -/
theorem row0 : k0_pay5 f l c (ix3 0 0 i) = max (c (ix2 i 0)) 0 := by
  unfold_payloads
  pointwise

/-- Row 1: the row minima of the second matrix. -/
theorem row1 : k0_pay5 f l c (ix3 0 1 i) =
    max (Finset.fold min (Ideal.ofBits .f32 0x7F800000#32) (fun x => l (ix2 i x)) Finset.univ) 0 := by
  unfold_payloads
  pointwise

/-- Row 2: the first matrix added up where the second attains its row minimum. -/
theorem row2 : k0_pay5 f l c (ix3 0 2 i) =
    max (∑ x, if l (ix2 i x) = Finset.fold min (Ideal.ofBits .f32 0x7F800000#32) (fun x => l (ix2 i x)) Finset.univ
      then f (ix2 i x) else 0) 0 := by
  unfold_payloads
  pointwise

/-- Row 3: the column minima of the first matrix. -/
theorem row3 : k0_pay5 f l c (ix3 0 3 i) =
    max (Finset.fold min (Ideal.ofBits .f32 0x7F800000#32) (fun x => f (ix2 x i)) Finset.univ) 0 := by
  unfold_payloads
  pointwise

/-- Row 4: the column minima of the second matrix. -/
theorem row4 : k0_pay5 f l c (ix3 0 4 i) =
    max (Finset.fold min (Ideal.ofBits .f32 0x7F800000#32) (fun x => l (ix2 x i)) Finset.univ) 0 := by
  unfold_payloads
  pointwise

/-- Row 5: the first matrix added up where the second attains its column minimum. -/
theorem row5 : k0_pay5 f l c (ix3 0 5 i) =
    max (∑ x, if l (ix2 x i) = Finset.fold min (Ideal.ofBits .f32 0x7F800000#32) (fun x => l (ix2 x i)) Finset.univ
      then f (ix2 x i) else 0) 0 := by
  unfold_payloads
  pointwise

/-- A real number that is not negative stays itself above zero. -/
theorem max_nonneg {a : ℝ} (h : 0 ≤ a) : max (a : EReal) 0 = a := max_eq_left (by exact_mod_cast h)

/-- Adding up where the minimum is attained, when one entry alone attains it, reads at that entry. -/
theorem sum_at_nn (D G : Fin 576 → Fin 576 → ℝ) (i : Fin 576)
    (hD : ∀ j, D i j = low D i → j = nn D i) :
    (∑ j, if ((D i j : ℝ) : EReal) = ((low D i : ℝ) : EReal) then ((G i j : ℝ) : EReal) else 0)
      = ((G i (nn D i) : ℝ) : EReal) := by
  rw [Finset.sum_eq_single (nn D i)]
  · exact if_pos rfl
  · intro j _ hj
    exact if_neg fun h => hj (hD j (EReal.coe_eq_coe_iff.mp h))
  · exact fun h => absurd (Finset.mem_univ _) h

/-- What the first call stores for one sample, at real inputs: the row and column minima of both distance matrices
    and each matrix of feature distances read at the location neighbours. -/
theorem packed_real (va vb : FVec Ideal S1x576x768 .f32) (la lb : FVec Ideal S1x2x576 .f32)
    (x y : Fin 576 → Fin 768 → ℝ) (u v : Fin 576 → Fin 2 → ℝ)
    (hx : ∀ i c, va (ix3 0 i c) = ((x i c : ℝ) : EReal)) (hy : ∀ i c, vb (ix3 0 i c) = ((y i c : ℝ) : EReal))
    (hu : ∀ i c, la (ix3 0 c i) = ((u i c : ℝ) : EReal)) (hv : ∀ i c, lb (ix3 0 c i) = ((v i c : ℝ) : EReal))
    (hU : ∀ i j, d2 u v i j = low (d2 u v) i → j = nn (d2 u v) i)
    (hV : ∀ i j, d2 v u i j = low (d2 v u) i → j = nn (d2 v u) i) (i : Fin 576) :
    packed va vb la lb (ix3 0 0 i) = ((low (d2 x y) i : ℝ) : EReal)
    ∧ packed va vb la lb (ix3 0 1 i) = ((low (d2 u v) i : ℝ) : EReal)
    ∧ packed va vb la lb (ix3 0 2 i) = ((d2 x y i (nn (d2 u v) i) : ℝ) : EReal)
    ∧ packed va vb la lb (ix3 0 3 i) = ((low (d2 y x) i : ℝ) : EReal)
    ∧ packed va vb la lb (ix3 0 4 i) = ((low (d2 v u) i : ℝ) : EReal)
    ∧ packed va vb la lb (ix3 0 5 i) = ((d2 y x i (nn (d2 v u) i) : ℝ) : EReal) := by
  refine ⟨?_, ?_, ?_, ?_, ?_, ?_⟩ <;> unfold packed
  · rw [row0, minF_apply va vb x y hx hy]
    exact max_nonneg (d2_nonneg _ _ _ _)
  · rw [row1]
    simp only [dL_apply la lb u v hu hv, w_inf, fold_low]
    exact max_nonneg (d2_nonneg _ _ _ _)
  · rw [row2]
    simp only [dL_apply la lb u v hu hv, dF_apply va vb x y hx hy, w_inf, fold_low]
    rw [sum_at_nn (d2 u v) (d2 x y) i (hU i)]
    exact max_nonneg (d2_nonneg _ _ _ _)
  · rw [row3]
    simp only [dF_apply va vb x y hx hy, w_inf, d2_comm x y, fold_low]
    exact max_nonneg (d2_nonneg _ _ _ _)
  · rw [row4]
    simp only [dL_apply la lb u v hu hv, w_inf, d2_comm u v, fold_low]
    exact max_nonneg (d2_nonneg _ _ _ _)
  · rw [row5]
    simp only [dL_apply la lb u v hu hv, dF_apply va vb x y hx hy, w_inf, d2_comm u v, d2_comm x y, fold_low]
    rw [sum_at_nn (d2 v u) (d2 y x) i (hV i)]
    exact max_nonneg (d2_nonneg _ _ _ _)

end Cert.KStats
-- ==== Proof.KRun.lean ====
module

public import proofs.«01_k».proof.Proof.KStats
public import Idealize.ShloMosaic.Lib.Pipeline.ValueKit
public import Idealize.ShloMosaic.Lib.Claim

@[expose] public section

set_option maxRecDepth 16384

noncomputable section

/-! The kernel's run with its result named. -/

namespace Cert.KRun

open Idealize.ShloMosaic Idealize.ShloMosaic.TcCoe Idealize.SL.Sem Cert.KernelIdeal Cert.KernelIdeal.Gen Cert.KStats

variable {F : FTy → Type} [FloatOps F]

/-- Sample `b` of a stack of 64 two-dimensional arrays, under a leading axis of extent 1. -/
def sample {α : Type} {n k : Nat} (A : (⟨3, ![64, n, k]⟩ : Shape).Idx → α) (b : Fin 64) : (⟨3, ![1, n, k]⟩ : Shape).Idx → α :=
  fun j => A (ix3 b (j 1) (j 2))

/-- The rows of all 64 samples. -/
def packAll (A B : FVec F S64x576x768 .f32) (C D : FVec F S64x2x576 .f32) : FVec F S64x8x576 .f32 := fun y =>
  packed (sample A (y 0)) (sample B (y 0)) (sample C (y 0)) (sample D (y 0)) (ix3 0 (y 1) (y 2))

variable (V : (c : Dev nD) → (b : Ref sig .tc) → Buf (Elt F) ((c : Thread nD τ).loc b))

/-- The samples the first call handles at each point: window by window the same four. -/
theorem idx : ∀ t : Fin cfg0.N, win0_0.index t = ![t.val, 0, 0] ∧ win0_1.index t = ![t.val, 0, 0]
    ∧ win0_2.index t = ![t.val, 0, 0] ∧ win0_3.index t = ![t.val, 0, 0] ∧ win0_4.index t = ![t.val, 0, 0] :=
  (by decide +kernel : ∀ t : Fin grid0.N, _)

set_option maxHeartbeats 2000000 in
/-- The first call leaves the rows of all samples in its result array. -/
theorem arr0 (c : Dev nD) : (dat0 V c).arrAt 4 cfg0.N = packAll (V c main_v0) (V c main_v1) (V c main_v3) (V c main_v5) := by
  refine (dat0 V c).arrAt_eq_of_covers 4 _ (by decide +kernel) fun t hf y => ?_
  blk_simp
  rw [after0_4, out0_4_eq]
  canon_tiles y h
  all_goals
    unfold packAll
    congr 1
    · funext j
      rw [View.ld_apply]
      unfold sample
      blk_ext [iblk0, idx t, r0_0, r0_1, r0_3, r0_4, r0_6, r0_7, r0_9, r0_10, Rect.idx_unit_val]
    · funext j
      rw [View.ld_apply]
      unfold sample
      blk_ext [iblk0, idx t, r0_0, r0_1, r0_3, r0_4, r0_6, r0_7, r0_9, r0_10, Rect.idx_unit_val]
    · funext j
      rw [View.ld_apply]
      unfold sample
      blk_ext [iblk0, idx t, r0_0, r0_1, r0_3, r0_4, r0_6, r0_7, r0_9, r0_10, Rect.idx_unit_val]
    · funext j
      rw [View.ld_apply]
      unfold sample
      blk_ext [iblk0, idx t, r0_0, r0_1, r0_3, r0_4, r0_6, r0_7, r0_9, r0_10, Rect.idx_unit_val]
    · blk_ext [idx t]

/-- Every window of the second call is its whole array. -/
theorem idx1 : ∀ t : Fin cfg1.N, win1_0.index t = ![0, 0] ∧ win1_1.index t = ![0, 0] ∧ win1_2.index t = ![0, 0]
    ∧ win1_3.index t = ![0, 0] ∧ win1_4.index t = ![0, 0] ∧ win1_5.index t = ![0, 0] ∧ win1_6.index t = ![0, 0]
    ∧ win1_7.index t = ![0, 0] := (by decide +kernel : ∀ t : Fin grid1.N, _)

/-- The second call's result at its eight inputs. -/
theorem arr1 (c : Dev nD) : (dat1 V c).arrAt 8 cfg1.N = fun _ => KFinal.stored (V c main_arg0) (V c main_arg1)
    (V c main_v8) (V c main_v10) (V c main_v12) (V c main_v14) (V c main_v16) (V c main_v18) := by
  refine (dat1 V c).arrAt_eq_of_after_last 8 t1_0 (by decide +kernel) _ fun j => ?_
  blk_simp
  rw [after1_8, KFinal.out1_8_eq]
  dsimp only
  congr 1
  all_goals blk_ext! [iblk1, idx1 t1_0]

end Cert.KRun
-- ==== Proof.KSums.lean ====
module

public import proofs.«01_k».proof.Proof.KFinal
public import proofs.«01_k».proof.Proof.Math
public import Idealize.ShloMosaic.Lib.Pointwise

@[expose] public section

set_option maxRecDepth 16384

noncomputable section

/-! The second call's rounds at exact numbers: the total of the values at the `k` least keys of every row. -/

namespace Cert.KFinal

open Idealize.ShloMosaic Idealize.SL.Sem Cert.KernelIdeal Cert.KernelIdeal.Gen Cert.Math

/-- A row's least key. -/
theorem least_apply (keys : FVec Ideal S64x576 .f32) (b : Fin 64) (z : Fin 1) :
    least keys (ix2 b z) = Finset.univ.fold min ⊤ fun j : Fin 576 => keys (ix2 b j) := by
  unfold least colOf mins
  pointwise
  rw [w_inf]

/-- Where a key is its row's entry of a column. -/
theorem marks_apply (keys : FVec Ideal S64x576 .f32) (c : FVec Ideal S64x1 .f32) (b : Fin 64) (j : Fin 576) :
    marks keys c (ix2 b j) = BitVec.ofBool (decide (keys (ix2 b j) = c (ix2 b 0))) := by
  unfold marks
  pointwise

/-- The marked keys put out of the way. -/
theorem putOut_apply (p : IVec S64x576 1) (keys : FVec Ideal S64x576 .f32) (b : Fin 64) (j : Fin 576) :
    putOut p keys (ix2 b j) = if p (ix2 b j) = 1#1 then ⊤ else keys (ix2 b j) := by
  unfold putOut
  pointwise
  rw [w_inf]; rfl

/-- The sum of a row's marked values. -/
theorem pickAt_apply (p : IVec S64x576 1) (vals : FVec Ideal S64x576 .f32) (b : Fin 64) (z : Fin 1) :
    pickAt p vals (ix2 b z) = ∑ j : Fin 576, if p (ix2 b j) = 1#1 then vals (ix2 b j) else 0 := by
  unfold pickAt colOf
  pointwise
  rfl

/-- A column's total is the sum of its entries. -/
theorem colTotal_apply (v : FVec Ideal S64x1 .f32) : colTotal v = ∑ b : Fin 64, v (ix2 b 0) := by
  unfold colTotal
  pointwise
  simp

/-- A row of the keys after `t` rounds. -/
theorem rounds_apply (keys : FVec Ideal S64x576 .f32) (b : Fin 64) (t : Nat) (j : Fin 576) :
    rounds keys t (ix2 b j) = rowRounds (fun j : Fin 576 => keys (ix2 b j)) t j := by
  induction t generalizing j with
  | zero => rfl
  | succ t ih =>
    simp only [rounds, rowRounds, putOut_apply, marks_apply, least_apply, ih]
    by_cases h : rowRounds (fun j : Fin 576 => keys (ix2 b j)) t j
        = Finset.univ.fold min ⊤ (rowRounds (fun j : Fin 576 => keys (ix2 b j)) t)
    · simp [h]
    · simp [h]

/-- The sum of a row's `k` least keys. -/
theorem keySum_apply (keys : FVec Ideal S64x576 .f32) (b : Fin 64) (z : Fin 1) (key : Fin 576 → ℝ)
    (hkey : ∀ j, keys (ix2 b j) = (key j : EReal)) (hinj : Function.Injective key) (k : Nat) (hk : k ≤ 576) :
    keySum keys k (ix2 b z) = ((selSum k key key : ℝ) : EReal) := by
  induction k with
  | zero => rw [selSum_zero]; exact Ideal.ofBits_zero_f32
  | succ t ih =>
    obtain ⟨i₀, hi⟩ := exists_rank hinj (t := t) (by omega)
    have e : keySum keys (t + 1) (ix2 b z) = keySum keys t (ix2 b z) + least (rounds keys t) (ix2 b z) := rfl
    rw [e, ih (by omega), least_apply, selSum_succ hinj key t i₀ hi, EReal.coe_add]
    congr 1
    simp only [rounds_apply, hkey]
    exact fold_rowRounds hinj t i₀ hi

/-- The sum of a row's values at its `k` least keys. -/
theorem valSum_apply (keys vals : FVec Ideal S64x576 .f32) (b : Fin 64) (z : Fin 1) (key val : Fin 576 → ℝ)
    (hkey : ∀ j, keys (ix2 b j) = (key j : EReal)) (hval : ∀ j, vals (ix2 b j) = (val j : EReal))
    (hinj : Function.Injective key) (k : Nat) (hk : k ≤ 576) :
    valSum keys vals k (ix2 b z) = ((selSum k key val : ℝ) : EReal) := by
  induction k with
  | zero => rw [selSum_zero]; exact Ideal.ofBits_zero_f32
  | succ t ih =>
    obtain ⟨i₀, hi⟩ := exists_rank hinj (t := t) (by omega)
    have e : valSum keys vals (t + 1) (ix2 b z) = valSum keys vals t (ix2 b z)
        + pickAt (marks (rounds keys t) (least (rounds keys t))) vals (ix2 b z) := rfl
    rw [e, ih (by omega), pickAt_apply, selSum_succ hinj val t i₀ hi, EReal.coe_add]
    congr 1
    have hit : ∀ j : Fin 576, (marks (rounds keys t) (least (rounds keys t)) (ix2 b j) = 1#1) ↔ j = i₀ := by
      intro j
      rw [marks_apply, least_apply]
      simp only [rounds_apply, hkey]
      rw [← rowRounds_hit hinj t i₀ hi j]
      by_cases h : rowRounds (fun i => (key i : EReal)) t j
          = Finset.univ.fold min ⊤ (rowRounds (fun i => (key i : EReal)) t)
      · simp [h]
      · simp [h]
    simp only [hit, hval]
    simp

/-- The total over the rows of the `k` least keys. -/
theorem keyTotal (keys : FVec Ideal S64x576 .f32) (key : Fin 64 → Fin 576 → ℝ)
    (hkey : ∀ b j, keys (ix2 b j) = (key b j : EReal)) (hinj : ∀ b, Function.Injective (key b))
    (k : Nat) (hk : k ≤ 576) :
    colTotal (keySum keys k) = ((∑ b, selSum k (key b) (key b) : ℝ) : EReal) := by
  rw [colTotal_apply, ← coe_sum]
  exact Finset.sum_congr rfl fun b _ => keySum_apply keys b 0 (key b) (hkey b) (hinj b) k hk

/-- The total over the rows of the values at the `k` least keys. -/
theorem valTotal (keys vals : FVec Ideal S64x576 .f32) (key val : Fin 64 → Fin 576 → ℝ)
    (hkey : ∀ b j, keys (ix2 b j) = (key b j : EReal)) (hval : ∀ b j, vals (ix2 b j) = (val b j : EReal))
    (hinj : ∀ b, Function.Injective (key b)) (k : Nat) (hk : k ≤ 576) :
    colTotal (valSum keys vals k) = ((∑ b, selSum k (key b) (val b) : ℝ) : EReal) := by
  rw [colTotal_apply, ← coe_sum]
  exact Finset.sum_congr rfl fun b _ => valSum_apply keys vals b 0 (key b) (val b) (hkey b) (hval b) (hinj b) k hk

/-- The last combination at real numbers. -/
theorem combine_real (g s0 s1 s2 s3 : ℝ) :
    combine (F := Ideal) (g : EReal) (s0 : EReal) (s1 : EReal) (s2 : EReal) (s3 : EReal)
      = ((0.25 * g + 0.75 * (25 * (s0 / 1966080 + s1 / 393216 + s2 / 1966080 + s3 / 393216)) : ℝ) : EReal) := by
  unfold combine
  simp only [Ideal.scalar_addf_def, Ideal.scalar_mulf_def, Ideal.scalar_divf_def, Ideal.ofBits_def]
  rw [w_quarter, w_3quarter, w_25, w_20, w_4]
  simp only [div_real _ (by norm_num : (1966080 : ℝ) ≠ 0), div_real _ (by norm_num : (393216 : ℝ) ≠ 0),
    ← EReal.coe_add, ← EReal.coe_mul]

/-- The squared deviations from the column means, summed down a column. -/
def colVar (x : Fin 64 → Fin 8192 → ℝ) (d : Fin 8192) : ℝ :=
  ∑ a, (x a d - (∑ b, x b d) / 64) * (x a d - (∑ b, x b d) / 64)

/-- The variance loss of one embedding. -/
def varLoss (x : Fin 64 → Fin 8192 → ℝ) : ℝ :=
  (∑ d, max (1 - Real.sqrt (colVar x d / 63 + eps)) 0) / 8192

/-- The covariance loss of one embedding, by products of rows. -/
def covLoss (x : Fin 64 → Fin 8192 → ℝ) : ℝ :=
  ((∑ a, ∑ b, (∑ d, (x a d - (∑ e, x e d) / 64) * (x b d - (∑ e, x e d) / 64))
        * (∑ d, (x a d - (∑ e, x e d) / 64) * (x b d - (∑ e, x e d) / 64)))
      - ∑ d, colVar x d * colVar x d) / 32514048

/-- The mean squared difference of the two embeddings. -/
def mse (x y : Fin 64 → Fin 8192 → ℝ) : ℝ := (∑ a, ∑ d, (x a d - y a d) * (x a d - y a d)) / 524288

/-- The column deviations' squares, summed, at real numbers. -/
theorem colVar_expr (X : FVec Ideal S64x8192 .f32) (x : Fin 64 → Fin 8192 → ℝ)
    (hx : ∀ a d, X (ix2 a d) = (x a d : EReal)) (d : Fin 8192) :
    (∑ a : Fin 64, (X (ix2 a d) - Ideal.div (∑ b : Fin 64, X (ix2 b d)) (Ideal.ofBits FTy.f32 0x42800000#32))
        * (X (ix2 a d) - Ideal.div (∑ b : Fin 64, X (ix2 b d)) (Ideal.ofBits FTy.f32 0x42800000#32)))
      = ((colVar x d : ℝ) : EReal) := by
  simp only [hx, w_64, coe_sum, div_real _ (by norm_num : (64 : ℝ) ≠ 0), ← EReal.coe_sub, ← EReal.coe_mul]
  rfl

/-- A sum of squares is not negative. -/
theorem colVar_nonneg (x : Fin 64 → Fin 8192 → ℝ) (d : Fin 8192) : 0 ≤ colVar x d :=
  Finset.sum_nonneg fun _ _ => mul_self_nonneg _

/-- The variance loss's entry at real numbers. -/
theorem std_expr (r : ℝ) (h : 0 ≤ r) :
    max (1 - Ideal.sqrt (Ideal.div (r : EReal) (Ideal.ofBits FTy.f32 0x427C0000#32)
        + Ideal.ofBits FTy.f32 0x38D1B717#32)) (0 : EReal)
      = ((max (1 - Real.sqrt (r / 63 + eps)) 0 : ℝ) : EReal) := by
  rw [w_63, w_eps, div_real _ (by norm_num : (63 : ℝ) ≠ 0), ← EReal.coe_add,
    sqrt_real (add_nonneg (div_nonneg h (by norm_num)) eps_pos.le), ← EReal.coe_one, ← EReal.coe_zero,
    ← EReal.coe_sub, max_real]

/-- The variance loss the kernel computes. -/
theorem var_expr (X : FVec Ideal S64x8192 .f32) (x : Fin 64 → Fin 8192 → ℝ)
    (hx : ∀ a d, X (ix2 a d) = (x a d : EReal)) :
    Ideal.div (∑ _ : Fin 1, ∑ d : Fin 8192, max (1 - Ideal.sqrt (Ideal.div
      (∑ a : Fin 64, (X (ix2 a d) - Ideal.div (∑ b : Fin 64, X (ix2 b d)) (Ideal.ofBits FTy.f32 0x42800000#32))
        * (X (ix2 a d) - Ideal.div (∑ b : Fin 64, X (ix2 b d)) (Ideal.ofBits FTy.f32 0x42800000#32)))
      (Ideal.ofBits FTy.f32 0x427C0000#32) + Ideal.ofBits FTy.f32 0x38D1B717#32)) (0 : EReal))
      (Ideal.ofBits FTy.f32 0x46000000#32) = ((varLoss x : ℝ) : EReal) := by
  simp only [colVar_expr X x hx, std_expr _ (colVar_nonneg x _), coe_sum, w_8192,
    div_real _ (by norm_num : (8192 : ℝ) ≠ 0)]
  simp [varLoss]

/-- The covariance loss the kernel computes. -/
theorem cov_expr (X : FVec Ideal S64x8192 .f32) (x : Fin 64 → Fin 8192 → ℝ)
    (hx : ∀ a d, X (ix2 a d) = (x a d : EReal)) :
    Ideal.div ((∑ a : Fin 64, ∑ b : Fin 64,
        (∑ d : Fin 8192, (X (ix2 a d) - Ideal.div (∑ e : Fin 64, X (ix2 e d)) (Ideal.ofBits FTy.f32 0x42800000#32))
          * (X (ix2 b d) - Ideal.div (∑ e : Fin 64, X (ix2 e d)) (Ideal.ofBits FTy.f32 0x42800000#32)))
        * (∑ d : Fin 8192, (X (ix2 a d) - Ideal.div (∑ e : Fin 64, X (ix2 e d)) (Ideal.ofBits FTy.f32 0x42800000#32))
          * (X (ix2 b d) - Ideal.div (∑ e : Fin 64, X (ix2 e d)) (Ideal.ofBits FTy.f32 0x42800000#32))))
      - ∑ _ : Fin 1, ∑ d : Fin 8192,
        (∑ a : Fin 64, (X (ix2 a d) - Ideal.div (∑ b : Fin 64, X (ix2 b d)) (Ideal.ofBits FTy.f32 0x42800000#32))
          * (X (ix2 a d) - Ideal.div (∑ b : Fin 64, X (ix2 b d)) (Ideal.ofBits FTy.f32 0x42800000#32)))
        * (∑ a : Fin 64, (X (ix2 a d) - Ideal.div (∑ b : Fin 64, X (ix2 b d)) (Ideal.ofBits FTy.f32 0x42800000#32))
          * (X (ix2 a d) - Ideal.div (∑ b : Fin 64, X (ix2 b d)) (Ideal.ofBits FTy.f32 0x42800000#32))))
      (Ideal.ofBits FTy.f32 0x4BF81000#32) = ((covLoss x : ℝ) : EReal) := by
  simp only [colVar_expr X x hx]
  simp only [hx, w_64, coe_sum, div_real _ (by norm_num : (64 : ℝ) ≠ 0), ← EReal.coe_sub, ← EReal.coe_mul, w_cov,
    div_real _ (by norm_num : (32514048 : ℝ) ≠ 0)]
  simp [covLoss]

/-- The kernel's variance loss of the first embedding. -/
theorem pay5_real (X : FVec Ideal S64x8192 .f32) (x : Fin 64 → Fin 8192 → ℝ) (hx : ∀ a d, X (ix2 a d) = (x a d : EReal)) :
    k1_pay5 (F := Ideal) X = ((varLoss x : ℝ) : EReal) := by
  unfold_payloads
  pointwise
  exact var_expr X x hx

/-- The kernel's covariance loss of the first embedding. -/
theorem pay4_real (X : FVec Ideal S64x8192 .f32) (x : Fin 64 → Fin 8192 → ℝ) (hx : ∀ a d, X (ix2 a d) = (x a d : EReal)) :
    k1_pay4 (F := Ideal) X = ((covLoss x : ℝ) : EReal) := by
  unfold_payloads
  pointwise
  exact cov_expr X x hx

/-- The kernel's global loss at real numbers. -/
theorem globalLoss_real (X Y : FVec Ideal S64x8192 .f32) (x y : Fin 64 → Fin 8192 → ℝ)
    (hx : ∀ a d, X (ix2 a d) = (x a d : EReal)) (hy : ∀ a d, Y (ix2 a d) = (y a d : EReal)) :
    globalLoss X Y = ((25 * mse x y + 12.5 * (varLoss x + varLoss y) + (covLoss x + covLoss y) : ℝ) : EReal) := by
  unfold globalLoss
  rw [pay5_real X x hx, pay4_real X x hx]
  unfold_payloads
  pointwise
  have hm : Ideal.div (∑ a : Fin 64, ∑ d : Fin 8192, (X (ix2 a d) - Y (ix2 a d)) * (X (ix2 a d) - Y (ix2 a d)))
      (Ideal.ofBits FTy.f32 0x49000000#32) = ((mse x y : ℝ) : EReal) := by
    simp only [hx, hy, coe_sum, ← EReal.coe_sub, ← EReal.coe_mul, w_524288,
      div_real _ (by norm_num : (524288 : ℝ) ≠ 0)]
    rfl
  rw [hm, var_expr Y y hy, cov_expr Y y hy, w_25, w_12_5]
  simp only [← EReal.coe_add, ← EReal.coe_mul]

/-- The second call's stored value at real numbers. -/
theorem stored_real (X Y : FVec Ideal S64x8192 .f32) (x y : Fin 64 → Fin 8192 → ℝ)
    (x2 x3 x4 x5 x6 x7 : FVec Ideal S64x576 .f32) (kf kg kl km va vb : Fin 64 → Fin 576 → ℝ)
    (hx : ∀ a d, X (ix2 a d) = (x a d : EReal)) (hy : ∀ a d, Y (ix2 a d) = (y a d : EReal))
    (h2 : ∀ b j, x2 (ix2 b j) = (kf b j : EReal)) (h3 : ∀ b j, x3 (ix2 b j) = (kg b j : EReal))
    (h4 : ∀ b j, x4 (ix2 b j) = (kl b j : EReal)) (h5 : ∀ b j, x5 (ix2 b j) = (km b j : EReal))
    (h6 : ∀ b j, x6 (ix2 b j) = (va b j : EReal)) (h7 : ∀ b j, x7 (ix2 b j) = (vb b j : EReal))
    (i2 : ∀ b, Function.Injective (kf b)) (i3 : ∀ b, Function.Injective (kg b))
    (i4 : ∀ b, Function.Injective (kl b)) (i5 : ∀ b, Function.Injective (km b)) :
    stored X Y x2 x3 x4 x5 x6 x7
      = ((0.25 * (25 * mse x y + 12.5 * (varLoss x + varLoss y) + (covLoss x + covLoss y))
          + 0.75 * (25 * ((∑ b, selSum 20 (kf b) (kf b)) / 1966080 + (∑ b, selSum 4 (kg b) (kg b)) / 393216
            + (∑ b, selSum 20 (kl b) (va b)) / 1966080 + (∑ b, selSum 4 (km b) (vb b)) / 393216)) : ℝ) : EReal) := by
  unfold stored
  rw [globalLoss_real X Y x y hx hy, keyTotal x2 kf h2 i2 20 (by norm_num), keyTotal x3 kg h3 i3 4 (by norm_num),
    valTotal x4 x6 kl va h4 h6 i4 20 (by norm_num), valTotal x5 x7 km vb h5 h7 i5 4 (by norm_num), combine_real]

end Cert.KFinal
-- ==== Proof.Data.lean ====
module

public import proofs.«01_k».proof.Proof.KSums

@[expose] public section

noncomputable section

/-! The six inputs as real numbers, and the answer both programs give on them. -/

namespace Cert.Data

open Idealize.ShloMosaic Cert.Math Cert.KFinal

/-- The reals behind the six inputs: two embeddings, two feature maps and two location maps of 64 samples. -/
structure Reals where
  A : Fin 64 → Fin 8192 → ℝ
  B : Fin 64 → Fin 8192 → ℝ
  X : Fin 64 → Fin 576 → Fin 768 → ℝ
  Y : Fin 64 → Fin 576 → Fin 768 → ℝ
  U : Fin 64 → Fin 576 → Fin 2 → ℝ
  V : Fin 64 → Fin 576 → Fin 2 → ℝ

/-- Squared feature distances, from the first map's places to the second's. -/
def Reals.dF (r : Reals) (b : Fin 64) : Fin 576 → Fin 576 → ℝ := d2 (r.X b) (r.Y b)
/-- Squared feature distances the other way. -/
def Reals.dF' (r : Reals) (b : Fin 64) : Fin 576 → Fin 576 → ℝ := d2 (r.Y b) (r.X b)
/-- Squared location distances, from the first map's places to the second's. -/
def Reals.dL (r : Reals) (b : Fin 64) : Fin 576 → Fin 576 → ℝ := d2 (r.U b) (r.V b)
/-- Squared location distances the other way. -/
def Reals.dL' (r : Reals) (b : Fin 64) : Fin 576 → Fin 576 → ℝ := d2 (r.V b) (r.U b)

/-- No two places of one sample are equally far from their nearest place, and nearest places in location are
    unique. -/
structure Reals.NoTies (r : Reals) : Prop where
  f : ∀ b, Function.Injective (low (r.dF b))
  f' : ∀ b, Function.Injective (low (r.dF' b))
  l : ∀ b, Function.Injective (low (r.dL b))
  l' : ∀ b, Function.Injective (low (r.dL' b))
  u : ∀ b i j, r.dL b i j = low (r.dL b) i → j = nn (r.dL b) i
  u' : ∀ b i j, r.dL' b i j = low (r.dL' b) i → j = nn (r.dL' b) i

/-- The global part: invariance, variance and covariance of the embeddings, weighted. -/
def Reals.global (r : Reals) : ℝ :=
  25 * mse r.A r.B + 12.5 * (varLoss r.A + varLoss r.B) + (covLoss r.A + covLoss r.B)

/-- The local part: the four matchings. -/
def Reals.local (r : Reals) : ℝ :=
  25 * ((∑ b, selSum 20 (low (r.dF b)) (low (r.dF b))) / 1966080
    + (∑ b, selSum 4 (low (r.dF' b)) (low (r.dF' b))) / 393216
    + (∑ b, selSum 20 (low (r.dL b)) (fun i => r.dF b i (nn (r.dL b) i))) / 1966080
    + (∑ b, selSum 4 (low (r.dL' b)) (fun i => r.dF' b i (nn (r.dL' b) i))) / 393216)

/-- The loss. -/
def Reals.answer (r : Reals) : ℝ := 0.25 * r.global + 0.75 * r.local

end Cert.Data
-- ==== Proof.KValue.lean ====
module

public import proofs.«01_k».proof.Proof.KRun
public import proofs.«01_k».proof.Proof.Data

@[expose] public section

set_option maxRecDepth 16384

noncomputable section

/-! The kernel's result as a real number. -/

namespace Cert.KRun

open Idealize.ShloMosaic Idealize.ShloMosaic.TcCoe Idealize.SL Idealize.SL.RA Idealize.SL.BI Idealize.SL.Sem
open Cert.KernelIdeal Cert.KernelIdeal.Gen Cert.KStats Cert.Math Cert.Data
open scoped Idealize.SL.BI
open Idealize.SL.BI.BIBase

section Read

variable {F : FTy → Type} [FloatOps F] (m : (ℓ : Loc nD τ sig) → Buf (Elt F) ℓ) (ρ : Dev nD → PrngReg)

/-- Feature maps as 576 places of 768 numbers. -/
abbrev feat (x : FVec F S64x24x24x768 .f32) : FVec F S64x576x768 .f32 :=
  shapeCast S64x576x768 x shapeCasts_S64x24x24x768_S64x576x768

/-- Location maps as 576 places of two numbers. -/
abbrev locs (x : FVec F S64x24x24x2 .f32) : FVec F S64x576x2 .f32 :=
  shapeCast S64x576x2 x shapeCasts_S64x24x24x2_S64x576x2

/-- The first call's first argument: the first feature map, its places in one row. -/
theorem V1_v0 (c : Dev nD) : V1 m ρ c main_v0 = feat (m ((c : Thread nD τ).loc main_arg2)) := by
  unfold V1 W1
  entry_read
  rfl

/-- The first call's second argument: the second feature map, its places in one row. -/
theorem V1_v1 (c : Dev nD) : V1 m ρ c main_v1 = feat (m ((c : Thread nD τ).loc main_arg3)) := by
  unfold V1 W1
  entry_read
  rfl

/-- The first call's third argument: the first location map, transposed. -/
theorem V1_v3 (c : Dev nD) : V1 m ρ c main_v3
    = transpose S64x2x576 [0, 2, 1] (locs (m ((c : Thread nD τ).loc main_arg4))) transposes_S64x576x2_S64x2x576_0_2_1 := by
  unfold V1 W1
  entry_read
  rfl

/-- The first call's fourth argument: the second location map, transposed. -/
theorem V1_v5 (c : Dev nD) : V1 m ρ c main_v5
    = transpose S64x2x576 [0, 2, 1] (locs (m ((c : Thread nD τ).loc main_arg5))) transposes_S64x576x2_S64x2x576_0_2_1 := by
  unfold V1 W1
  entry_read
  rfl

/-- The rows of all samples, from the four local arguments. -/
def rowsOf (a2 a3 : FVec F S64x24x24x768 .f32) (a4 a5 : FVec F S64x24x24x2 .f32) : FVec F S64x8x576 .f32 :=
  packAll (feat a2) (feat a3) (transpose S64x2x576 [0, 2, 1] (locs a4) transposes_S64x576x2_S64x2x576_0_2_1)
    (transpose S64x2x576 [0, 2, 1] (locs a5) transposes_S64x576x2_S64x2x576_0_2_1)

/-- What the first call leaves in its result. -/
theorem W2_v6 (c : Dev nD) : W2 m ρ c (Proc.devRef .tc main_v6)
    = rowsOf (m ((c : Thread nD τ).loc main_arg2)) (m ((c : Thread nD τ).loc main_arg3))
        (m ((c : Thread nD τ).loc main_arg4)) (m ((c : Thread nD τ).loc main_arg5)) := by
  refine (W2_arr m ρ c 4).trans ?_
  rw [arr0, V1_v0, V1_v1, V1_v3, V1_v5]
  rfl

/-- The second call's third argument: row 0 of the first call's result. -/
theorem V3_v8 (c : Dev nD) : V3 m ρ c main_v8 = shapeCast S64x576 (extractStridedSlice S64x1x576 ![0, 0, 0]
    (W2 m ρ c (Proc.devRef .tc main_v6)) slices_S64x8x576_S64x1x576_0_0_0) shapeCasts_S64x1x576_S64x576 := by
  unfold V3 W3
  entry_read
  rfl

/-- The second call's fourth argument: row 3 of the first call's result. -/
theorem V3_v10 (c : Dev nD) : V3 m ρ c main_v10 = shapeCast S64x576 (extractStridedSlice S64x1x576 ![0, 3, 0]
    (W2 m ρ c (Proc.devRef .tc main_v6)) slices_S64x8x576_S64x1x576_0_3_0) shapeCasts_S64x1x576_S64x576 := by
  unfold V3 W3
  entry_read
  rfl

/-- The second call's fifth argument: row 1 of the first call's result. -/
theorem V3_v12 (c : Dev nD) : V3 m ρ c main_v12 = shapeCast S64x576 (extractStridedSlice S64x1x576 ![0, 1, 0]
    (W2 m ρ c (Proc.devRef .tc main_v6)) slices_S64x8x576_S64x1x576_0_1_0) shapeCasts_S64x1x576_S64x576 := by
  unfold V3 W3
  entry_read
  rfl

/-- The second call's sixth argument: row 4 of the first call's result. -/
theorem V3_v14 (c : Dev nD) : V3 m ρ c main_v14 = shapeCast S64x576 (extractStridedSlice S64x1x576 ![0, 4, 0]
    (W2 m ρ c (Proc.devRef .tc main_v6)) slices_S64x8x576_S64x1x576_0_4_0) shapeCasts_S64x1x576_S64x576 := by
  unfold V3 W3
  entry_read
  rfl

/-- The second call's seventh argument: row 2 of the first call's result. -/
theorem V3_v16 (c : Dev nD) : V3 m ρ c main_v16 = shapeCast S64x576 (extractStridedSlice S64x1x576 ![0, 2, 0]
    (W2 m ρ c (Proc.devRef .tc main_v6)) slices_S64x8x576_S64x1x576_0_2_0) shapeCasts_S64x1x576_S64x576 := by
  unfold V3 W3
  entry_read
  rfl

/-- The second call's eighth argument: row 5 of the first call's result. -/
theorem V3_v18 (c : Dev nD) : V3 m ρ c main_v18 = shapeCast S64x576 (extractStridedSlice S64x1x576 ![0, 5, 0]
    (W2 m ρ c (Proc.devRef .tc main_v6)) slices_S64x8x576_S64x1x576_0_5_0) shapeCasts_S64x1x576_S64x576 := by
  unfold V3 W3
  entry_read
  rfl

/-- What the second call leaves in its result. -/
theorem W4_v19 (c : Dev nD) : W4 m ρ c (Proc.devRef .tc main_v19) = fun _ => KFinal.stored
    (m ((c : Thread nD τ).loc main_arg0)) (m ((c : Thread nD τ).loc main_arg1))
    (V3 m ρ c main_v8) (V3 m ρ c main_v10) (V3 m ρ c main_v12) (V3 m ρ c main_v14) (V3 m ρ c main_v16) (V3 m ρ c main_v18) := by
  refine (W4_arr m ρ c 8).trans ?_
  rw [arr1]
  rw [show V3 m ρ c main_arg0 = m ((c : Thread nD τ).loc main_arg0) from W3_args m ρ c main_arg0 (by decide),
    show V3 m ρ c main_arg1 = m ((c : Thread nD τ).loc main_arg1) from W3_args m ρ c main_arg1 (by decide)]

/-- The program's result is the second call's one number. -/
theorem W5_v20 (c : Dev nD) : W5 m ρ c (Proc.devRef .tc main_v20) = fun _ => KFinal.stored
    (m ((c : Thread nD τ).loc main_arg0)) (m ((c : Thread nD τ).loc main_arg1))
    (V3 m ρ c main_v8) (V3 m ρ c main_v10) (V3 m ρ c main_v12) (V3 m ρ c main_v14) (V3 m ρ c main_v16) (V3 m ρ c main_v18) := by
  unfold W5
  entry_read
  rw [W4_v19]
  rfl

end Read

/-- The six arrays hold the reals `r`. -/
structure Holds (r : Reals) (a0 a1 : FVec Ideal S64x8192 .f32) (a2 a3 : FVec Ideal S64x24x24x768 .f32)
    (a4 a5 : FVec Ideal S64x24x24x2 .f32) : Prop where
  a : ∀ b d, a0 (ix2 b d) = ((r.A b d : ℝ) : EReal)
  b : ∀ b d, a1 (ix2 b d) = ((r.B b d : ℝ) : EReal)
  x : ∀ b i c, feat a2 (ix3 b i c) = ((r.X b i c : ℝ) : EReal)
  y : ∀ b i c, feat a3 (ix3 b i c) = ((r.Y b i c : ℝ) : EReal)
  u : ∀ b i c, locs a4 (ix3 b i c) = ((r.U b i c : ℝ) : EReal)
  v : ∀ b i c, locs a5 (ix3 b i c) = ((r.V b i c : ℝ) : EReal)

variable {r : Reals} {a0 a1 : FVec Ideal S64x8192 .f32} {a2 a3 : FVec Ideal S64x24x24x768 .f32}
  {a4 a5 : FVec Ideal S64x24x24x2 .f32}

/-- The rows at real inputs. -/
theorem rows_real (h : Holds r a0 a1 a2 a3 a4 a5) (ht : r.NoTies) (b : Fin 64) (i : Fin 576) :
    rowsOf a2 a3 a4 a5 (ix3 b 0 i) = ((low (r.dF b) i : ℝ) : EReal)
    ∧ rowsOf a2 a3 a4 a5 (ix3 b 1 i) = ((low (r.dL b) i : ℝ) : EReal)
    ∧ rowsOf a2 a3 a4 a5 (ix3 b 2 i) = ((r.dF b i (nn (r.dL b) i) : ℝ) : EReal)
    ∧ rowsOf a2 a3 a4 a5 (ix3 b 3 i) = ((low (r.dF' b) i : ℝ) : EReal)
    ∧ rowsOf a2 a3 a4 a5 (ix3 b 4 i) = ((low (r.dL' b) i : ℝ) : EReal)
    ∧ rowsOf a2 a3 a4 a5 (ix3 b 5 i) = ((r.dF' b i (nn (r.dL' b) i) : ℝ) : EReal) := by
  refine packed_real _ _ _ _ (r.X b) (r.Y b) (r.U b) (r.V b) (fun i c => h.x b i c) (fun i c => h.y b i c)
    (fun i c => ?_) (fun i c => ?_) (ht.u b) (ht.u' b) i
  · refine Eq.trans ?_ (h.u b i c)
    unfold sample
    pointwise
  · refine Eq.trans ?_ (h.v b i c)
    unfold sample
    pointwise

/-- Row `k` of the rows, as the second call takes it. -/
theorem slice_apply (R : FVec Ideal S64x8x576 .f32) (b : Fin 64) (j : Fin 576) :
    shapeCast S64x576 (extractStridedSlice S64x1x576 ![0, 0, 0] R slices_S64x8x576_S64x1x576_0_0_0)
      shapeCasts_S64x1x576_S64x576 (ix2 b j) = R (ix3 b 0 j)
    ∧ shapeCast S64x576 (extractStridedSlice S64x1x576 ![0, 1, 0] R slices_S64x8x576_S64x1x576_0_1_0)
      shapeCasts_S64x1x576_S64x576 (ix2 b j) = R (ix3 b 1 j)
    ∧ shapeCast S64x576 (extractStridedSlice S64x1x576 ![0, 2, 0] R slices_S64x8x576_S64x1x576_0_2_0)
      shapeCasts_S64x1x576_S64x576 (ix2 b j) = R (ix3 b 2 j)
    ∧ shapeCast S64x576 (extractStridedSlice S64x1x576 ![0, 3, 0] R slices_S64x8x576_S64x1x576_0_3_0)
      shapeCasts_S64x1x576_S64x576 (ix2 b j) = R (ix3 b 3 j)
    ∧ shapeCast S64x576 (extractStridedSlice S64x1x576 ![0, 4, 0] R slices_S64x8x576_S64x1x576_0_4_0)
      shapeCasts_S64x1x576_S64x576 (ix2 b j) = R (ix3 b 4 j)
    ∧ shapeCast S64x576 (extractStridedSlice S64x1x576 ![0, 5, 0] R slices_S64x8x576_S64x1x576_0_5_0)
      shapeCasts_S64x1x576_S64x576 (ix2 b j) = R (ix3 b 5 j) := by
  refine ⟨?_, ?_, ?_, ?_, ?_, ?_⟩ <;> pointwise

section Value

variable (m : (ℓ : Loc nD τ sig) → Buf (Elt Ideal) ℓ) (ρ : Dev nD → PrngReg)

/-- The kernel's result at real inputs without ties. -/
theorem value (c : Dev nD) (h : Holds r (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5))) (ht : r.NoTies) :
    W5 m ρ c (Proc.devRef .tc main_v20) = fun _ => ((r.answer : ℝ) : EReal) := by
  rw [W5_v20]
  funext j
  refine (KFinal.stored_real _ _ r.A r.B _ _ _ _ _ _
    (fun b => low (r.dF b)) (fun b => low (r.dF' b)) (fun b => low (r.dL b)) (fun b => low (r.dL' b))
    (fun b i => r.dF b i (nn (r.dL b) i)) (fun b i => r.dF' b i (nn (r.dL' b) i)) h.a h.b
    (fun b j => ?_) (fun b j => ?_) (fun b j => ?_) (fun b j => ?_) (fun b j => ?_) (fun b j => ?_)
    ht.f ht.f' ht.l ht.l').trans rfl
  · rw [V3_v8, W2_v6]
    exact (slice_apply _ b j).1.trans (rows_real h ht b j).1
  · rw [V3_v10, W2_v6]
    exact (slice_apply _ b j).2.2.2.1.trans (rows_real h ht b j).2.2.2.1
  · rw [V3_v12, W2_v6]
    exact (slice_apply _ b j).2.1.trans (rows_real h ht b j).2.1
  · rw [V3_v14, W2_v6]
    exact (slice_apply _ b j).2.2.2.2.1.trans (rows_real h ht b j).2.2.2.2.1
  · rw [V3_v16, W2_v6]
    exact (slice_apply _ b j).2.2.1.trans (rows_real h ht b j).2.2.1
  · rw [V3_v18, W2_v6]
    exact (slice_apply _ b j).2.2.2.2.2.trans (rows_real h ht b j).2.2.2.2.2

end Value

end Cert.KRun
-- ==== Proof.Pre.lean ====
module

public import proofs.«01_k».proof.Pre_no_ties
public import proofs.«01_k».proof.Proof.KValue
public import Idealize.ShloMosaic.Lib.ReduceAll
public import Idealize.ShloMosaic.Lib.Affine

@[expose] public section

set_option maxRecDepth 16384

noncomputable section

/-! The precondition read: finite inputs, distinct nearest distances, unique nearest places. -/

namespace Cert.Pre

open Idealize.ShloMosaic Cert.Pre_no_ties Cert.Math Cert.Data Cert.KRun

/-- The shape facts the precondition's operations take. -/
instance facts : Cert.Pre_no_ties.Facts where
  shapeCasts_S64x24x24x768_S64x576x768 := by decide
  shapeCasts_S64x24x24x2_S64x576x2 := by decide
  reducesTo_S64x576x768_S64x576_d2 := by decide
  h_S_ := by decide
  bcast_S64x576_S64x576x1_0_1 := by decide
  bcast_S64x576_S64x1x576_0_2 := by decide
  bcast_S64x576x1_S64x576x576_0_1_2 := by decide
  bcast_S64x1x576_S64x576x576_0_1_2 := by decide
  bcast_S_S64x576x576 := by decide
  bcast_S64x576x2_S64x576x1x2_0_1_3 := by decide
  bcast_S64x576x2_S64x1x576x2_0_2_3 := by decide
  bcast_S64x576x1x2_S64x576x576x2_0_1_2_3 := by decide
  bcast_S64x1x576x2_S64x576x576x2_0_1_2_3 := by decide
  reducesTo_S64x576x576x2_S64x576x576_d3 := by decide
  reducesTo_S64x576x576_S64x576_d2 := by decide
  reducesTo_S64x576x576_S64x576_d1 := by decide
  bcast_S_S64x8192 := by decide
  reducesTo_S64x8192_S_d0_1 := by decide
  bcast_S_S64x24x24x768 := by decide
  reducesTo_S64x24x24x768_S_d0_1_2_3 := by decide
  bcast_S_S64x24x24x2 := by decide
  reducesTo_S64x24x24x2_S_d0_1_2_3 := by decide
  reducesTo_S64x576x576_S_d0_1_2 := by decide
  dot_S64x576x768_S64x576x768_S64x576x576_2_2_1_1_0_0_wf := by decide

open Cert.Pre_no_ties.Facts

section Words

variable {F : FTy → Type} [FloatOps F]

/-- Squared feature distances as the precondition computes them. -/
def featD (x y : FVec F S64x576x768 .f32) : FVec F S64x576x576 .f32 :=
  subf (addf
      (broadcastInDim S64x576x576 ![0, 1, 2] bcast_S64x576x1_S64x576x576_0_1_2
        (broadcastInDim S64x576x1 ![0, 1] bcast_S64x576_S64x576x1_0_1
          (Host.reduceAdd (mulf x x) (constant (F := F) S_ .f32 0x00000000#32) reducesTo_S64x576x768_S64x576_d2 h_S_)))
      (broadcastInDim S64x576x576 ![0, 1, 2] bcast_S64x1x576_S64x576x576_0_1_2
        (broadcastInDim S64x1x576 ![0, 2] bcast_S64x576_S64x1x576_0_2
          (Host.reduceAdd (mulf y y) (constant (F := F) S_ .f32 0x00000000#32) reducesTo_S64x576x768_S64x576_d2 h_S_))))
    (mulf (broadcastInDim S64x576x576 ![] bcast_S_S64x576x576 (constant (F := F) S_ .f32 0x40000000#32))
      (Host.dotGeneral dot_S64x576x768_S64x576x768_S64x576x576_2_2_1_1_0_0 none x y))

/-- Squared location distances as the precondition computes them. -/
def placeD (u v : FVec F S64x576x2 .f32) : FVec F S64x576x576 .f32 :=
  have w : FVec F S64x576x576x2 .f32 := subf
    (broadcastInDim S64x576x576x2 ![0, 1, 2, 3] bcast_S64x576x1x2_S64x576x576x2_0_1_2_3
      (broadcastInDim S64x576x1x2 ![0, 1, 3] bcast_S64x576x2_S64x576x1x2_0_1_3
        u))
    (broadcastInDim S64x576x576x2 ![0, 1, 2, 3] bcast_S64x1x576x2_S64x576x576x2_0_1_2_3
      (broadcastInDim S64x1x576x2 ![0, 2, 3] bcast_S64x576x2_S64x1x576x2_0_2_3
        v))
  Host.reduceAdd (mulf w w) (constant (F := F) S_ .f32 0x00000000#32) reducesTo_S64x576x576x2_S64x576x576_d3 h_S_

/-- The minima over the last axis. -/
def rowMin (D : FVec F S64x576x576 .f32) : FVec F S64x576 .f32 :=
  Host.reduce FloatOps.minimumf D (constant (F := F) S_ .f32 0x7F800000#32) reducesTo_S64x576x576_S64x576_d2 h_S_

/-- The minima over the middle axis. -/
def colMin (D : FVec F S64x576x576 .f32) : FVec F S64x576 .f32 :=
  Host.reduce FloatOps.minimumf D (constant (F := F) S_ .f32 0x7F800000#32) reducesTo_S64x576x576_S64x576_d1 h_S_

/-- One value of a sample per column. -/
def alongRows {α : Type} (n : S64x576.Idx → α) : S64x576x576.Idx → α :=
  broadcastInDim S64x576x576 ![0, 1, 2] bcast_S64x576x1_S64x576x576_0_1_2
    (broadcastInDim S64x576x1 ![0, 1] bcast_S64x576_S64x576x1_0_1 n)

/-- One value of a sample per row. -/
def alongCols {α : Type} (n : S64x576.Idx → α) : S64x576x576.Idx → α :=
  broadcastInDim S64x576x576 ![0, 1, 2] bcast_S64x1x576_S64x576x576_0_1_2
    (broadcastInDim S64x1x576 ![0, 2] bcast_S64x576_S64x1x576_0_2 n)

/-- Where two of a sample's values differ, or are the same one. -/
def apart (n : FVec F S64x576 .f32) : IVec S64x576x576 1 :=
  ori (cmpf .une (alongRows n) (alongCols n)) (cmpi .eq (iotaInDim S64x576x576 32 1) (iotaInDim S64x576x576 32 2))

/-- Where an entry is not its row's minimum, or is the one picked. -/
def onceRow (D : FVec F S64x576x576 .f32) (p : IVec S64x576 32) : IVec S64x576x576 1 :=
  ori (cmpf .une D (alongRows (rowMin D))) (cmpi .eq (iotaInDim S64x576x576 32 2) (alongRows p))

/-- Where an entry is not its column's minimum, or is the one picked. -/
def onceCol (D : FVec F S64x576x576 .f32) (p : IVec S64x576 32) : IVec S64x576x576 1 :=
  ori (cmpf .une D (alongCols (colMin D))) (cmpi .eq (iotaInDim S64x576x576 32 1) (alongCols p))

/-- All entries of a mask. -/
def all3 (p : IVec S64x576x576 1) : IVec S_ 1 :=
  Host.reduce IntOp.andi p (constantI S_ 1 1#1) reducesTo_S64x576x576_S_d0_1_2 h_S_

/-- All entries of an embedding are finite. -/
def fin0 (x : FVec F S64x8192 .f32) : IVec S_ 1 :=
  Host.reduce IntOp.andi (cmpf .olt (Host.absf x) (broadcastInDim S64x8192 ![] bcast_S_S64x8192
    (constant (F := F) S_ .f32 0x7F800000#32))) (constantI S_ 1 1#1) reducesTo_S64x8192_S_d0_1 h_S_

/-- All entries of a feature map are finite. -/
def fin2 (x : FVec F S64x24x24x768 .f32) : IVec S_ 1 :=
  Host.reduce IntOp.andi (cmpf .olt (Host.absf x) (broadcastInDim S64x24x24x768 ![] bcast_S_S64x24x24x768
    (constant (F := F) S_ .f32 0x7F800000#32))) (constantI S_ 1 1#1) reducesTo_S64x24x24x768_S_d0_1_2_3 h_S_

/-- All entries of a location map are finite. -/
def fin4 (x : FVec F S64x24x24x2 .f32) : IVec S_ 1 :=
  Host.reduce IntOp.andi (cmpf .olt (Host.absf x) (broadcastInDim S64x24x24x2 ![] bcast_S_S64x24x24x2
    (constant (F := F) S_ .f32 0x7F800000#32))) (constantI S_ 1 1#1) reducesTo_S64x24x24x2_S_d0_1_2_3 h_S_

/-- The precondition as its twelve parts. -/
theorem fn_eq (a0 a1 : FVec F S64x8192 .f32) (a2 a3 : FVec F S64x24x24x768 .f32) (a4 a5 : FVec F S64x24x24x2 .f32) :
    fn a0 a1 a2 a3 a4 a5 =
      andi (andi (andi (andi (andi (andi (andi (andi (andi (andi (andi (fin0 a0) (fin0 a1)) (fin2 a2)) (fin2 a3)) (fin4 a4))
        (fin4 a5)) (all3 (apart (rowMin (featD (feat a2) (feat a3)))))) (all3 (apart (colMin (featD (feat a2) (feat a3))))))
        (all3 (apart (rowMin (placeD (locs a4) (locs a5)))))) (all3 (apart (colMin (placeD (locs a4) (locs a5))))))
        (all3 (onceRow (placeD (locs a4) (locs a5)) (fn_argmin (placeD (locs a4) (locs a5)))))) (all3 (onceCol (placeD (locs a4) (locs a5)) (fn_argmin_0 (placeD (locs a4) (locs a5))))) :=
  rfl

end Words

/-- A number less than infinity in magnitude is real. -/
theorem real_of_lt (a : EReal) (h : BitVec.ofBool (decide (max a (-a) < ⊤)) = 1#1) : ((a.toReal : ℝ) : EReal) = a := by
  have h' : max a (-a) < ⊤ := by
    by_contra hc
    simp [hc] at h
  rw [max_lt_iff] at h'
  exact EReal.coe_toReal h'.1.ne (fun e => by simp [e] at h')

/-- Finite embeddings hold real numbers. -/
theorem fin0_real (x : FVec Ideal S64x8192 .f32) (i : S64x8192.Idx) (h : fin0 x ix0 = 1#1) :
    (((x i).toReal : ℝ) : EReal) = x i := by
  have := Host.reduce_andi_all _ _ _ _ _ h i
  refine real_of_lt _ (Eq.trans ?_ this)
  rw [← w_inf]
  rfl

/-- Finite feature maps hold real numbers. -/
theorem fin2_real (x : FVec Ideal S64x24x24x768 .f32) (i : S64x24x24x768.Idx) (h : fin2 x ix0 = 1#1) :
    (((x i).toReal : ℝ) : EReal) = x i := by
  have := Host.reduce_andi_all _ _ _ _ _ h i
  refine real_of_lt _ (Eq.trans ?_ this)
  rw [← w_inf]
  rfl

/-- Finite location maps hold real numbers. -/
theorem fin4_real (x : FVec Ideal S64x24x24x2 .f32) (i : S64x24x24x2.Idx) (h : fin4 x ix0 = 1#1) :
    (((x i).toReal : ℝ) : EReal) = x i := by
  have := Host.reduce_andi_all _ _ _ _ _ h i
  refine real_of_lt _ (Eq.trans ?_ this)
  rw [← w_inf]
  rfl

/-- Two place numbers have equal words only when they are equal. -/
theorem word_inj (i j : Fin 576) (h : BitVec.ofNat 32 i.val = BitVec.ofNat 32 j.val) : i = j := by
  have := congrArg BitVec.toNat h
  simp only [BitVec.toNat_ofNat] at this
  apply Fin.ext
  omega

/-- Words that compare as equal are equal. -/
theorem of_eq (a b : BitVec 32) (h : IntOp.cmpi .eq a b = 1#1) : a = b := by
  by_contra hc
  have e : (a == b) = false := by simpa using hc
  rw [show IntOp.cmpi .eq a b = BitVec.ofBool (a == b) from rfl, e] at h
  exact absurd h (by decide)

/-- Values marked as apart differ from place to place. -/
theorem apart_injective (n : FVec Ideal S64x576 .f32) (key : Fin 64 → Fin 576 → ℝ)
    (hk : ∀ b i, n (ix2 b i) = ((key b i : ℝ) : EReal)) (h : all3 (apart n) ix0 = 1#1) (b : Fin 64) :
    Function.Injective (key b) := by
  intro i j hij
  have := Host.reduce_andi_all _ _ _ _ _ h (ix3 b i j)
  unfold apart alongRows alongCols at this
  pointwise at this
  rw [hk, hk, hij, IntOp.ori_eq_one] at this
  rcases this with e | e
  · simp at e
  · exact word_inj i j (of_eq _ _ e)

/-- A row minimum marked as attained once is attained at one column. -/
theorem onceRow_unique (D : FVec Ideal S64x576x576 .f32) (p : IVec S64x576 32) (d : Fin 64 → Fin 576 → Fin 576 → ℝ)
    (hd : ∀ b i j, D (ix3 b i j) = ((d b i j : ℝ) : EReal)) (h : all3 (onceRow D p) ix0 = 1#1) (b : Fin 64)
    (i j : Fin 576) (hj : d b i j = low (d b) i) : j = nn (d b) i := by
  have key : ∀ j, d b i j = low (d b) i → BitVec.ofNat 32 j.val = p (ix2 b i) := by
    intro j hj
    have := Host.reduce_andi_all _ _ _ _ _ h (ix3 b i j)
    unfold onceRow rowMin alongRows at this
    pointwise at this
    simp only [hd, w_inf, fold_low, hj, IntOp.ori_eq_one] at this
    rcases this with e | e
    · simp at e
    · exact of_eq _ _ e
  exact word_inj _ _ ((key j hj).trans (key _ rfl).symm)

/-- A column minimum marked as attained once is attained at one row. -/
theorem onceCol_unique (D : FVec Ideal S64x576x576 .f32) (p : IVec S64x576 32) (d : Fin 64 → Fin 576 → Fin 576 → ℝ)
    (hd : ∀ b i j, D (ix3 b j i) = ((d b i j : ℝ) : EReal)) (h : all3 (onceCol D p) ix0 = 1#1) (b : Fin 64)
    (i j : Fin 576) (hj : d b i j = low (d b) i) : j = nn (d b) i := by
  have key : ∀ j, d b i j = low (d b) i → BitVec.ofNat 32 j.val = p (ix2 b i) := by
    intro j hj
    have := Host.reduce_andi_all _ _ _ _ _ h (ix3 b j i)
    unfold onceCol colMin alongCols at this
    pointwise at this
    simp only [hd, w_inf, fold_low, hj, IntOp.ori_eq_one] at this
    rcases this with e | e
    · simp at e
    · exact of_eq _ _ e
  exact word_inj _ _ ((key j hj).trans (key _ rfl).symm)

/-- Row minima of a real matrix. -/
theorem rowMin_real (D : FVec Ideal S64x576x576 .f32) (d : Fin 64 → Fin 576 → Fin 576 → ℝ)
    (hd : ∀ b i j, D (ix3 b i j) = ((d b i j : ℝ) : EReal)) (b : Fin 64) (i : Fin 576) :
    rowMin D (ix2 b i) = ((low (d b) i : ℝ) : EReal) := by
  unfold rowMin
  pointwise
  simp only [hd, w_inf, fold_low]

/-- Column minima of a real matrix. -/
theorem colMin_real (D : FVec Ideal S64x576x576 .f32) (d : Fin 64 → Fin 576 → Fin 576 → ℝ)
    (hd : ∀ b i j, D (ix3 b j i) = ((d b i j : ℝ) : EReal)) (b : Fin 64) (i : Fin 576) :
    colMin D (ix2 b i) = ((low (d b) i : ℝ) : EReal) := by
  unfold colMin
  pointwise
  simp only [hd, w_inf, fold_low]

/-- The feature distances at real inputs. -/
theorem featD_real (x y : FVec Ideal S64x576x768 .f32) (X Y : Fin 64 → Fin 576 → Fin 768 → ℝ)
    (hx : ∀ b i c, x (ix3 b i c) = ((X b i c : ℝ) : EReal)) (hy : ∀ b i c, y (ix3 b i c) = ((Y b i c : ℝ) : EReal))
    (b : Fin 64) (i j : Fin 576) : featD x y (ix3 b i j) = ((d2 (X b) (Y b) i j : ℝ) : EReal) := by
  unfold featD
  pointwise
  simp only [hx, hy, w_2, ← EReal.coe_mul, coe_sum, ← EReal.coe_add, ← EReal.coe_sub, d2_expand]

/-- The location distances at real inputs. -/
theorem placeD_real (x y : FVec Ideal S64x576x2 .f32) (X Y : Fin 64 → Fin 576 → Fin 2 → ℝ)
    (hx : ∀ b i c, x (ix3 b i c) = ((X b i c : ℝ) : EReal)) (hy : ∀ b i c, y (ix3 b i c) = ((Y b i c : ℝ) : EReal))
    (b : Fin 64) (i j : Fin 576) : placeD x y (ix3 b i j) = ((d2 (X b) (Y b) i j : ℝ) : EReal) := by
  unfold placeD
  pointwise
  simp only [hx, hy, ← EReal.coe_mul, ← EReal.coe_sub, coe_sum, d2, sq]

/-- Inputs that meet the precondition hold real numbers without ties. -/
theorem decode (a0 a1 : FVec Ideal S64x8192 .f32) (a2 a3 : FVec Ideal S64x24x24x768 .f32)
    (a4 a5 : FVec Ideal S64x24x24x2 .f32) (h : fn a0 a1 a2 a3 a4 a5 = fun _ => 1#1) :
    ∃ r : Reals, Holds r a0 a1 a2 a3 a4 a5 ∧ r.NoTies := by
  rw [fn_eq] at h
  have h := congrFun h ix0
  simp only [andi, IntOp.andi_eq_one] at h
  obtain ⟨⟨⟨⟨⟨⟨⟨⟨⟨⟨⟨f0, f1⟩, f2⟩, f3⟩, f4⟩, f5⟩, d1⟩, d2'⟩, d3⟩, d4⟩, o1⟩, o2⟩ := h
  have hX : ∀ i, (((feat a2 i).toReal : ℝ) : EReal) = feat a2 i := fun i => fin2_real a2 _ f2
  have hY : ∀ i, (((feat a3 i).toReal : ℝ) : EReal) = feat a3 i := fun i => fin2_real a3 _ f3
  have hU : ∀ i, (((locs a4 i).toReal : ℝ) : EReal) = locs a4 i := fun i => fin4_real a4 _ f4
  have hV : ∀ i, (((locs a5 i).toReal : ℝ) : EReal) = locs a5 i := fun i => fin4_real a5 _ f5
  let r : Reals :=
    { A := fun b d => (a0 (ix2 b d)).toReal
      B := fun b d => (a1 (ix2 b d)).toReal
      X := fun b i c => (feat a2 (ix3 b i c)).toReal
      Y := fun b i c => (feat a3 (ix3 b i c)).toReal
      U := fun b i c => (locs a4 (ix3 b i c)).toReal
      V := fun b i c => (locs a5 (ix3 b i c)).toReal }
  have hr : Holds r a0 a1 a2 a3 a4 a5 :=
    { a := fun b d => (fin0_real a0 _ f0).symm
      b := fun b d => (fin0_real a1 _ f1).symm
      x := fun b i c => (hX _).symm
      y := fun b i c => (hY _).symm
      u := fun b i c => (hU _).symm
      v := fun b i c => (hV _).symm }
  have eF : ∀ b i j, featD (feat a2) (feat a3) (ix3 b i j) = ((r.dF b i j : ℝ) : EReal) := featD_real _ _ _ _ hr.x hr.y
  have eF' : ∀ b i j, featD (feat a2) (feat a3) (ix3 b j i) = ((r.dF' b i j : ℝ) : EReal) := fun b i j =>
    (eF b j i).trans (congrArg Real.toEReal (d2_comm _ _ _ _))
  have eL : ∀ b i j, placeD (locs a4) (locs a5) (ix3 b i j) = ((r.dL b i j : ℝ) : EReal) := placeD_real _ _ _ _ hr.u hr.v
  have eL' : ∀ b i j, placeD (locs a4) (locs a5) (ix3 b j i) = ((r.dL' b i j : ℝ) : EReal) := fun b i j =>
    (eL b j i).trans (congrArg Real.toEReal (d2_comm _ _ _ _))
  exact ⟨r, hr,
    { f := apart_injective _ (fun b => low (r.dF b)) (rowMin_real _ _ eF) d1
      f' := apart_injective _ (fun b => low (r.dF' b)) (colMin_real _ _ eF') d2'
      l := apart_injective _ (fun b => low (r.dL b)) (rowMin_real _ _ eL) d3
      l' := apart_injective _ (fun b => low (r.dL' b)) (colMin_real _ _ eL') d4
      u := onceRow_unique _ _ _ eL o1
      u' := onceCol_unique _ _ _ eL' o2 }⟩

end Cert.Pre
-- ==== Proof.KLaunch.lean ====
module

public import proofs.«01_k».proof.Proof.Gen.KernelIdeal.Frame

@[expose] public section

set_option maxRecDepth 16384

noncomputable section

/-! The kernel's run, from the launch to the last stretch, keeping what the result buffer holds. -/

namespace Cert.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] (m : (ℓ : Loc nD τ sig) → Buf (Elt F) ℓ) (ρ : Dev nD → PrngReg)

local notation "𝕄" => MT nD τ sig Unit (Elt F) ℕ (UR sig nD τ) ℕ

set_option backward.isDefEq.respectTransparency.types false in
/-- Every run ends with the result buffer at the last boundary's contents and the arguments as launched. -/
theorem run : θ_run defs (onTc (τ := τ) (main (F := F))) ⟨m, fun _ => 0, ρ⟩ (fun r => ∀ c : Dev nD,
      r.2.mem ((c.tc : Thread nD τ).loc main_v20) = W5 m ρ c (Proc.devRef .tc main_v20)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨h c _ (mem_uc main_v20 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.KRun
-- ==== Proof.RTake.lean ====
module

public import proofs.«01_k».proof.Proof.Gen.ReferenceIdeal.Read
public import proofs.«01_k».proof.Proof.Math
public import Idealize.ShloMosaic.Lib.Pointwise
public import Idealize.ShloMosaic.Lib.ReduceAll
public import Idealize.ShloMosaic.Lib.WordCmp
public import Idealize.ShloMosaic.Lib.SortFacts

@[expose] public section

set_option maxRecDepth 16384

noncomputable section

/-! The reference's reads at computed places: rows of a map and entries of a table of words. -/

namespace Cert.Ref

open Idealize.ShloMosaic Idealize.SL.Sem Cert.ReferenceIdeal Cert.ReferenceIdeal.Gen Cert.Math

/-- The word of a place. -/
abbrev word (n : Fin 576) : BitVec 32 := BitVec.ofNat 32 n.val

/-- A place's word is not negative. -/
theorem word_slt (n : Fin 576) : IntOp.cmpi .slt (word n) 0#32 = 0#1 := by
  have : ((BitVec.ofNat 32 n.val).toInt) = (n.val : Int) := WordCmp.toInt_ofNat_of_lt (by omega)
  rw [WordCmp.cmpi_slt_eq, this, WordCmp.ofBool_decide_eq_zero_iff]
  show ¬ (n.val : Int) < 0
  omega

/-- A place's word is at least zero. -/
theorem word_sge (n : Fin 576) : IntOp.cmpi .sge (word n) 0#32 = 1#1 := by
  have : ((BitVec.ofNat 32 n.val).toInt) = (n.val : Int) := WordCmp.toInt_ofNat_of_lt (by omega)
  rw [WordCmp.cmpi_sge_eq, this]
  simp

/-- A place's word is at most the last place's. -/
theorem word_sle (n : Fin 576) : IntOp.cmpi .sle (word n) 575#32 = 1#1 := by
  have : ((BitVec.ofNat 32 n.val).toInt) = (n.val : Int) := WordCmp.toInt_ofNat_of_lt (by omega)
  rw [WordCmp.cmpi_sle_eq, this, WordCmp.ofBool_decide_eq_one_iff]
  show (n.val : Int) ≤ 575
  omega

/-- A place's word read as a start index. -/
theorem word_start (n : Fin 576) : min (word n).toInt.toNat 575 = n.val := by
  have : ((BitVec.ofNat 32 n.val).toInt) = (n.val : Int) := WordCmp.toInt_ofNat_of_lt (by omega)
  rw [this]
  omega

/-- A place's word is the same words only of the same place. -/
theorem word_inj {i j : Fin 576} (h : word i = word j) : i = j := by
  have := congrArg BitVec.toNat h
  simp only [word, BitVec.toNat_ofNat] at this
  apply Fin.ext
  omega

section K20

/-- A negative place counted from the end. -/
def wrap20 (s : IVec S64x20x1 32) : IVec S64x20x1 32 :=
  select (cmpi .slt s (broadcastInDim S64x20x1 ![] bcast_S_S64x20x1 (constantI S_ 32 0#32)))
    (addi s (broadcastInDim S64x20x1 ![] bcast_S_S64x20x1 (constantI S_ 32 576#32))) s

/-- Where a place is in range. -/
def inside20 (s : IVec S64x20x1 32) : IVec S64x20 1 :=
  Host.reduce IntOp.andi
    (andi (cmpi .sge s (broadcastInDim S64x20x1 ![] bcast_S_S64x20x1 (constantI S_ 32 0#32)))
      (cmpi .sle s (broadcastInDim S64x20x1 ![0, 1, 2] bcast_S1x1x1_S64x20x1_0_1_2
        (broadcastInDim S1x1x1 ![2] bcast_S1_S1x1x1_2 (constantI S1 32 575#32)))))
    (constantI S_ 1 1#1) reducesTo_S64x20x1_S64x20_d2 h_S_

/-- The rows of a map at the given places. -/
def takeRows20 (x : FVec Ideal S64x576x768 .f32) (s : IVec S64x20x1 32) : FVec Ideal S64x20x768 .f32 :=
  select (broadcastInDim S64x20x768 ![0, 1] bcast_S64x20_S64x20x768_0_1 (inside20 (wrap20 s)))
    (Host.gather gather_S64x576x768_S64x20x1_S64x20x768_2_1_0_0_1_2_11768 x (wrap20 s))
    (broadcastInDim S64x20x768 ![] bcast_S_S64x20x768 (constant (F := Ideal) S_ .f32 0x7FC00000#32))

/-- A negative place counted from the end, before the last axis is added. -/
def wrapFlat20 (s : IVec S64x20 32) : IVec S64x20 32 :=
  select (cmpi .slt s (broadcastInDim S64x20 ![] bcast_S_S64x20 (constantI S_ 32 0#32)))
    (addi s (broadcastInDim S64x20 ![] bcast_S_S64x20 (constantI S_ 32 576#32))) s

/-- The entries of a table at the given places. -/
def takeWords20 (n : IVec S64x576 32) (s : IVec S64x20 32) : IVec S64x20 32 :=
  have w : IVec S64x20x1 32 := shapeCast S64x20x1 (wrapFlat20 s) shapeCasts_S64x20_S64x20x1
  select (inside20 w) (Host.gather gather_S64x576_S64x20x1_S64x20_n_1_0_0_1_2_11 n w)
    (broadcastInDim S64x20 ![] bcast_S_S64x20 (constantI S_ 32 2147483648#32))

/-- A place in range is not moved. -/
theorem wrap20_word (s : IVec S64x20x1 32) (b : Fin 64) (p : Fin 20) (z : Fin 1) (n : Fin 576)
    (h : s (ix3 b p z) = word n) : wrap20 s (ix3 b p z) = word n := by
  unfold wrap20
  show Scalar.select (IntOp.cmpi .slt (s (ix3 b p z)) 0#32) _ (s (ix3 b p z)) = _
  rw [h, word_slt]
  rfl

/-- A place in range is not moved. -/
theorem wrapFlat20_word (s : IVec S64x20 32) (b : Fin 64) (p : Fin 20) (n : Fin 576)
    (h : s (ix2 b p) = word n) : wrapFlat20 s (ix2 b p) = word n := by
  unfold wrapFlat20
  show Scalar.select (IntOp.cmpi .slt (s (ix2 b p)) 0#32) _ (s (ix2 b p)) = _
  rw [h, word_slt]
  rfl

/-- Places in range are inside. -/
theorem inside20_word (s : IVec S64x20x1 32) (n : Fin 64 → Fin 20 → Fin 576)
    (h : ∀ b p z, s (ix3 b p z) = word (n b p)) (j : S64x20.Idx) : inside20 s j = 1#1 := by
  unfold inside20
  refine Host.reduce_andi_one _ _ _ _ _ rfl fun i => ?_
  have e : s i = word (n (i 0) (i 1)) := (congrArg s (eq_ix3 i)).trans (h _ _ _)
  show IntOp.andi (IntOp.cmpi .sge (s i) 0#32) (IntOp.cmpi .sle (s i) 575#32) = 1#1
  rw [e, word_sge, word_sle]
  rfl

/-- The place a row is read at. -/
theorem rowAt20 (s : IVec S64x20x1 32) (b : Fin 64) (p : Fin 20) (c : Fin 768) (n : Fin 576) (h : s (ix3 b p 0) = word n) :
    gather_S64x576x768_S64x20x1_S64x20x768_2_1_0_0_1_2_11768.operandIdx (ix3 b p c) s = ix3 b n c := by
  funext a
  match a with
  | ⟨0, _⟩ =>
    apply Fin.ext
    show 0 + b.val + 0 = b.val
    omega
  | ⟨1, _⟩ =>
    apply Fin.ext
    have e : gather_S64x576x768_S64x20x1_S64x20x768_2_1_0_0_1_2_11768.siIdx (ix3 b p c) ⟨0, by decide⟩ = ix3 b p 0 := by
      funext b'
      match b' with
      | ⟨0, _⟩ => rfl
      | ⟨1, _⟩ => rfl
      | ⟨2, _⟩ => rfl
    show min (s (gather_S64x576x768_S64x20x1_S64x20x768_2_1_0_0_1_2_11768.siIdx (ix3 b p c) ⟨0, by decide⟩)).toInt.toNat 575 + 0 + 0 = n.val
    rw [e, h, word_start]
    rfl
  | ⟨2, _⟩ =>
    apply Fin.ext
    show 0 + 0 + c.val = c.val
    omega

/-- The place an entry is read at. -/
theorem wordAt20 (s : IVec S64x20x1 32) (b : Fin 64) (p : Fin 20) (n : Fin 576) (h : s (ix3 b p 0) = word n) :
    gather_S64x576_S64x20x1_S64x20_n_1_0_0_1_2_11.operandIdx (ix2 b p) s = ix2 b n := by
  funext a
  match a with
  | ⟨0, _⟩ =>
    apply Fin.ext
    show 0 + b.val + 0 = b.val
    omega
  | ⟨1, _⟩ =>
    apply Fin.ext
    have e : gather_S64x576_S64x20x1_S64x20_n_1_0_0_1_2_11.siIdx (ix2 b p) ⟨0, by decide⟩ = ix3 b p 0 := by
      funext b'
      match b' with
      | ⟨0, _⟩ => rfl
      | ⟨1, _⟩ => rfl
      | ⟨2, _⟩ => rfl
    show min (s (gather_S64x576_S64x20x1_S64x20_n_1_0_0_1_2_11.siIdx (ix2 b p) ⟨0, by decide⟩)).toInt.toNat 575 + 0 + 0 = n.val
    rw [e, h, word_start]
    rfl

/-- Rows at places in range. -/
theorem takeRows20_apply (x : FVec Ideal S64x576x768 .f32) (s : IVec S64x20x1 32) (n : Fin 64 → Fin 20 → Fin 576)
    (h : ∀ b p z, s (ix3 b p z) = word (n b p)) (b : Fin 64) (p : Fin 20) (c : Fin 768) :
    takeRows20 x s (ix3 b p c) = x (ix3 b (n b p) c) := by
  have hw := fun b p z => wrap20_word s b p z (n b p) (h b p z)
  unfold takeRows20
  show Scalar.select (broadcastInDim S64x20x768 ![0, 1] bcast_S64x20_S64x20x768_0_1 (inside20 (wrap20 s)) (ix3 b p c))
    (x (gather_S64x576x768_S64x20x1_S64x20x768_2_1_0_0_1_2_11768.operandIdx (ix3 b p c) (wrap20 s))) _ = _
  rw [rowAt20 _ b p c (n b p) (hw b p 0), show broadcastInDim S64x20x768 ![0, 1] bcast_S64x20_S64x20x768_0_1 (inside20 (wrap20 s)) (ix3 b p c) = 1#1
    from inside20_word _ n hw _]
  rfl

/-- Entries at places in range. -/
theorem takeWords20_apply (t : IVec S64x576 32) (s : IVec S64x20 32) (n : Fin 64 → Fin 20 → Fin 576)
    (h : ∀ b p, s (ix2 b p) = word (n b p)) (b : Fin 64) (p : Fin 20) :
    takeWords20 t s (ix2 b p) = t (ix2 b (n b p)) := by
  have hw : ∀ b p z, shapeCast S64x20x1 (wrapFlat20 s) shapeCasts_S64x20_S64x20x1 (ix3 b p z) = word (n b p) := by
    intro b p z
    rw [← wrapFlat20_word s b p (n b p) (h b p)]
    pointwise
  unfold takeWords20
  show Scalar.select (inside20 _ (ix2 b p)) (t (gather_S64x576_S64x20x1_S64x20_n_1_0_0_1_2_11.operandIdx (ix2 b p) _)) _ = _
  rw [wordAt20 _ b p (n b p) (hw b p 0), inside20_word _ n hw]
  rfl

end K20

section K4

/-- A negative place counted from the end. -/
def wrap4 (s : IVec S64x4x1 32) : IVec S64x4x1 32 :=
  select (cmpi .slt s (broadcastInDim S64x4x1 ![] bcast_S_S64x4x1 (constantI S_ 32 0#32)))
    (addi s (broadcastInDim S64x4x1 ![] bcast_S_S64x4x1 (constantI S_ 32 576#32))) s

/-- Where a place is in range. -/
def inside4 (s : IVec S64x4x1 32) : IVec S64x4 1 :=
  Host.reduce IntOp.andi
    (andi (cmpi .sge s (broadcastInDim S64x4x1 ![] bcast_S_S64x4x1 (constantI S_ 32 0#32)))
      (cmpi .sle s (broadcastInDim S64x4x1 ![0, 1, 2] bcast_S1x1x1_S64x4x1_0_1_2
        (broadcastInDim S1x1x1 ![2] bcast_S1_S1x1x1_2 (constantI S1 32 575#32)))))
    (constantI S_ 1 1#1) reducesTo_S64x4x1_S64x4_d2 h_S_

/-- The rows of a map at the given places. -/
def takeRows4 (x : FVec Ideal S64x576x768 .f32) (s : IVec S64x4x1 32) : FVec Ideal S64x4x768 .f32 :=
  select (broadcastInDim S64x4x768 ![0, 1] bcast_S64x4_S64x4x768_0_1 (inside4 (wrap4 s)))
    (Host.gather gather_S64x576x768_S64x4x1_S64x4x768_2_1_0_0_1_2_11768 x (wrap4 s))
    (broadcastInDim S64x4x768 ![] bcast_S_S64x4x768 (constant (F := Ideal) S_ .f32 0x7FC00000#32))

/-- A negative place counted from the end, before the last axis is added. -/
def wrapFlat4 (s : IVec S64x4 32) : IVec S64x4 32 :=
  select (cmpi .slt s (broadcastInDim S64x4 ![] bcast_S_S64x4 (constantI S_ 32 0#32)))
    (addi s (broadcastInDim S64x4 ![] bcast_S_S64x4 (constantI S_ 32 576#32))) s

/-- The entries of a table at the given places. -/
def takeWords4 (n : IVec S64x576 32) (s : IVec S64x4 32) : IVec S64x4 32 :=
  have w : IVec S64x4x1 32 := shapeCast S64x4x1 (wrapFlat4 s) shapeCasts_S64x4_S64x4x1
  select (inside4 w) (Host.gather gather_S64x576_S64x4x1_S64x4_n_1_0_0_1_2_11 n w)
    (broadcastInDim S64x4 ![] bcast_S_S64x4 (constantI S_ 32 2147483648#32))

/-- A place in range is not moved. -/
theorem wrap4_word (s : IVec S64x4x1 32) (b : Fin 64) (p : Fin 4) (z : Fin 1) (n : Fin 576)
    (h : s (ix3 b p z) = word n) : wrap4 s (ix3 b p z) = word n := by
  unfold wrap4
  show Scalar.select (IntOp.cmpi .slt (s (ix3 b p z)) 0#32) _ (s (ix3 b p z)) = _
  rw [h, word_slt]
  rfl

/-- A place in range is not moved. -/
theorem wrapFlat4_word (s : IVec S64x4 32) (b : Fin 64) (p : Fin 4) (n : Fin 576)
    (h : s (ix2 b p) = word n) : wrapFlat4 s (ix2 b p) = word n := by
  unfold wrapFlat4
  show Scalar.select (IntOp.cmpi .slt (s (ix2 b p)) 0#32) _ (s (ix2 b p)) = _
  rw [h, word_slt]
  rfl

/-- Places in range are inside. -/
theorem inside4_word (s : IVec S64x4x1 32) (n : Fin 64 → Fin 4 → Fin 576)
    (h : ∀ b p z, s (ix3 b p z) = word (n b p)) (j : S64x4.Idx) : inside4 s j = 1#1 := by
  unfold inside4
  refine Host.reduce_andi_one _ _ _ _ _ rfl fun i => ?_
  have e : s i = word (n (i 0) (i 1)) := (congrArg s (eq_ix3 i)).trans (h _ _ _)
  show IntOp.andi (IntOp.cmpi .sge (s i) 0#32) (IntOp.cmpi .sle (s i) 575#32) = 1#1
  rw [e, word_sge, word_sle]
  rfl

/-- The place a row is read at. -/
theorem rowAt4 (s : IVec S64x4x1 32) (b : Fin 64) (p : Fin 4) (c : Fin 768) (n : Fin 576) (h : s (ix3 b p 0) = word n) :
    gather_S64x576x768_S64x4x1_S64x4x768_2_1_0_0_1_2_11768.operandIdx (ix3 b p c) s = ix3 b n c := by
  funext a
  match a with
  | ⟨0, _⟩ =>
    apply Fin.ext
    show 0 + b.val + 0 = b.val
    omega
  | ⟨1, _⟩ =>
    apply Fin.ext
    have e : gather_S64x576x768_S64x4x1_S64x4x768_2_1_0_0_1_2_11768.siIdx (ix3 b p c) ⟨0, by decide⟩ = ix3 b p 0 := by
      funext b'
      match b' with
      | ⟨0, _⟩ => rfl
      | ⟨1, _⟩ => rfl
      | ⟨2, _⟩ => rfl
    show min (s (gather_S64x576x768_S64x4x1_S64x4x768_2_1_0_0_1_2_11768.siIdx (ix3 b p c) ⟨0, by decide⟩)).toInt.toNat 575 + 0 + 0 = n.val
    rw [e, h, word_start]
    rfl
  | ⟨2, _⟩ =>
    apply Fin.ext
    show 0 + 0 + c.val = c.val
    omega

/-- The place an entry is read at. -/
theorem wordAt4 (s : IVec S64x4x1 32) (b : Fin 64) (p : Fin 4) (n : Fin 576) (h : s (ix3 b p 0) = word n) :
    gather_S64x576_S64x4x1_S64x4_n_1_0_0_1_2_11.operandIdx (ix2 b p) s = ix2 b n := by
  funext a
  match a with
  | ⟨0, _⟩ =>
    apply Fin.ext
    show 0 + b.val + 0 = b.val
    omega
  | ⟨1, _⟩ =>
    apply Fin.ext
    have e : gather_S64x576_S64x4x1_S64x4_n_1_0_0_1_2_11.siIdx (ix2 b p) ⟨0, by decide⟩ = ix3 b p 0 := by
      funext b'
      match b' with
      | ⟨0, _⟩ => rfl
      | ⟨1, _⟩ => rfl
      | ⟨2, _⟩ => rfl
    show min (s (gather_S64x576_S64x4x1_S64x4_n_1_0_0_1_2_11.siIdx (ix2 b p) ⟨0, by decide⟩)).toInt.toNat 575 + 0 + 0 = n.val
    rw [e, h, word_start]
    rfl

/-- Rows at places in range. -/
theorem takeRows4_apply (x : FVec Ideal S64x576x768 .f32) (s : IVec S64x4x1 32) (n : Fin 64 → Fin 4 → Fin 576)
    (h : ∀ b p z, s (ix3 b p z) = word (n b p)) (b : Fin 64) (p : Fin 4) (c : Fin 768) :
    takeRows4 x s (ix3 b p c) = x (ix3 b (n b p) c) := by
  have hw := fun b p z => wrap4_word s b p z (n b p) (h b p z)
  unfold takeRows4
  show Scalar.select (broadcastInDim S64x4x768 ![0, 1] bcast_S64x4_S64x4x768_0_1 (inside4 (wrap4 s)) (ix3 b p c))
    (x (gather_S64x576x768_S64x4x1_S64x4x768_2_1_0_0_1_2_11768.operandIdx (ix3 b p c) (wrap4 s))) _ = _
  rw [rowAt4 _ b p c (n b p) (hw b p 0), show broadcastInDim S64x4x768 ![0, 1] bcast_S64x4_S64x4x768_0_1 (inside4 (wrap4 s)) (ix3 b p c) = 1#1
    from inside4_word _ n hw _]
  rfl

/-- Entries at places in range. -/
theorem takeWords4_apply (t : IVec S64x576 32) (s : IVec S64x4 32) (n : Fin 64 → Fin 4 → Fin 576)
    (h : ∀ b p, s (ix2 b p) = word (n b p)) (b : Fin 64) (p : Fin 4) :
    takeWords4 t s (ix2 b p) = t (ix2 b (n b p)) := by
  have hw : ∀ b p z, shapeCast S64x4x1 (wrapFlat4 s) shapeCasts_S64x4_S64x4x1 (ix3 b p z) = word (n b p) := by
    intro b p z
    rw [← wrapFlat4_word s b p (n b p) (h b p)]
    pointwise
  unfold takeWords4
  show Scalar.select (inside4 _ (ix2 b p)) (t (gather_S64x576_S64x4x1_S64x4_n_1_0_0_1_2_11.operandIdx (ix2 b p) _)) _ = _
  rw [wordAt4 _ b p (n b p) (hw b p 0), inside4_word _ n hw]
  rfl

end K4

end Cert.Ref
-- ==== Proof.RSort.lean ====
module

public import proofs.«01_k».proof.Proof.RTake

@[expose] public section

set_option maxRecDepth 16384

noncomputable section

/-! The reference's order of the nearest distances, and the places it keeps. -/

namespace Cert.Ref

open Idealize.ShloMosaic Idealize.SL.Sem Cert.ReferenceIdeal Cert.ReferenceIdeal.Gen Cert.Math

/-- The places of each sample in the order of their keys. -/
def order (n : FVec Ideal S64x576 .f32) : IVec S64x576 32 :=
  (Host.sort2 S64x576 1 (comparator_f32_i32_d1 (F := Ideal)) n (iotaInDim S64x576 32 1)).2

/-- The comparator of the keyed sort is the order of the keys. -/
theorem before_eq (l r : Ideal .f32 × BitVec 32) :
    comparator_f32_i32_d1 (F := Ideal) l r = BitVec.ofBool (decide ((l.1 : EReal) < r.1)) := by
  have z : ∀ x : EReal, Scalar.select (BitVec.ofBool (decide (x = 0))) (0 : EReal) x = x := by
    intro x
    by_cases h : x = 0
    · simp [h, Scalar.select]
    · simp [h, Scalar.select]
  have w : ∀ x y : EReal, Scalar.select (BitVec.ofBool (decide (x ≠ x))) y x = x := by
    intro x y
    simp [Scalar.select]
  have e : ∀ x : EReal, Scalar.select (FloatOps.cmpf (F := Ideal) (φ := .f32) .une x x) (FloatOps.ofBits (F := Ideal) .f32 0x7FC00000#32)
      (Scalar.select (FloatOps.cmpf (F := Ideal) (φ := .f32) .oeq x (FloatOps.ofBits .f32 0x00000000#32)) (FloatOps.ofBits (F := Ideal) .f32 0x00000000#32) x)
      = x := by
    intro x
    rw [show FloatOps.ofBits (F := Ideal) .f32 0x00000000#32 = (0 : EReal) from Ideal.ofBits_zero_f32]
    rw [show FloatOps.cmpf (F := Ideal) (φ := .f32) .oeq x (0 : EReal) = BitVec.ofBool (decide (x = 0)) from rfl, z]
    exact w x _
  show FloatOps.cmpfTotal (F := Ideal) (φ := .f32) .lt (Scalar.select _ _ _) (Scalar.select _ _ _) = _
  rw [e, e]
  rfl

/-- A place along a row. -/
theorem along_ix2 {n k : Nat} (b : Fin n) (p q : Fin k) : Shape.Idx.along (s := ⟨2, ![n, k]⟩) (ix2 b p) 1 q = ix2 b q := by
  funext a
  match a with
  | ⟨0, _⟩ => rfl
  | ⟨1, _⟩ => rfl

/-- A sort of the rows read at a place. -/
theorem sort_ix2 {n k : Nat} {α : Type} (cmp : α → α → BitVec 1) (x : (⟨2, ![n, k]⟩ : Shape).Idx → α) (b : Fin n) (p : Fin k) :
    Host.sort ⟨2, ![n, k]⟩ 1 cmp x (ix2 b p)
      = x (ix2 b (sortedFrom (fun i j : Fin k => cmp (x (ix2 b i)) (x (ix2 b j)) == 1#1) p)) := by
  have e : (fun q : Fin k => Shape.Idx.along (s := ⟨2, ![n, k]⟩) (ix2 b p) 1 q) = fun q => ix2 b q := funext (along_ix2 b p)
  exact congrArg (fun f : Fin k → (⟨2, ![n, k]⟩ : Shape).Idx =>
    x (f (sortedFrom (fun i j : Fin k => cmp (x (f i)) (x (f j)) == 1#1) p))) e

/-- A sort of the rows of two arrays, the second read at a place. -/
theorem sort2_ix2 {n k : Nat} {α β : Type} (cmp : α × β → α × β → BitVec 1) (x : (⟨2, ![n, k]⟩ : Shape).Idx → α)
    (y : (⟨2, ![n, k]⟩ : Shape).Idx → β) (b : Fin n) (p : Fin k) :
    (Host.sort2 ⟨2, ![n, k]⟩ 1 cmp x y).2 (ix2 b p)
      = y (ix2 b (sortedFrom (fun i j : Fin k => cmp (x (ix2 b i), y (ix2 b i)) (x (ix2 b j), y (ix2 b j)) == 1#1) p)) := by
  have e : (fun q : Fin k => Shape.Idx.along (s := ⟨2, ![n, k]⟩) (ix2 b p) 1 q) = fun q => ix2 b q := funext (along_ix2 b p)
  exact congrArg (fun f : Fin k → (⟨2, ![n, k]⟩ : Shape).Idx =>
    y (f (sortedFrom (fun i j : Fin k => cmp (x (f i), y (f i)) (x (f j), y (f j)) == 1#1) p))) e

/-- The order of one sample's keys. -/
def perm (key : Fin 576 → ℝ) : Fin 576 → Fin 576 :=
  sortedFrom fun k k' => BitVec.ofBool (decide (((key k : ℝ) : EReal) < ((key k' : ℝ) : EReal))) == 1#1

/-- Each place comes once. -/
theorem perm_bijective (key : Fin 576 → ℝ) : Function.Bijective (perm key) :=
  ⟨sortedFrom_injective _, sortedFrom_surjective _⟩

/-- Distinct keys increase along the order. -/
theorem perm_lt (key : Fin 576 → ℝ) (hk : Function.Injective key) (p q : Fin 576) (h : p < q) :
    key (perm key p) < key (perm key q) := by
  have e : ∀ k k', (BitVec.ofBool (decide (((key k : ℝ) : EReal) < ((key k' : ℝ) : EReal))) == 1#1) = decide (key k < key k') := by
    intro k k'
    simp only [EReal.coe_lt_coe_iff]
    by_cases hc : key k < key k' <;> simp [hc]
  have := sortedFrom_noInversion (fun k k' => decide (key k < key k'))
    (fun k k' => BitVec.ofBool (decide (((key k : ℝ) : EReal) < ((key k' : ℝ) : EReal))) == 1#1)
    (fun a b hab => by rw [e] at hab; simp at hab ⊢; exact hab.le)
    (fun a b hab => by rw [e]; exact hab)
    (fun a b c hab hbc => by simp at hab hbc ⊢; exact hbc.trans hab) p q h
  simp only [decide_eq_false_iff_not, not_lt] at this
  refine lt_of_le_of_ne this fun he => ?_
  exact h.ne ((perm_bijective key).1 (hk he))

/-- The order's places at real keys. -/
theorem order_apply (n : FVec Ideal S64x576 .f32) (key : Fin 64 → Fin 576 → ℝ)
    (hk : ∀ b i, n (ix2 b i) = ((key b i : ℝ) : EReal)) (b : Fin 64) (p : Fin 576) :
    order n (ix2 b p) = word (perm (key b) p) := by
  refine (sort2_ix2 (comparator_f32_i32_d1 (F := Ideal)) n (iotaInDim S64x576 32 1) b p).trans ?_
  simp only [before_eq, hk]
  rfl

/-- The kept places of each sample, in place order. -/
def kept20 (o : IVec S64x576 32) : IVec S64x20 32 :=
  Host.sort S64x20 1 comparator_i32_d1 (extractStridedSlice S64x20 ![0, 0] o slices_S64x576_S64x20_0_0)

/-- The kept places are the first of the order, in some order of their own. -/
theorem kept20_apply (o : IVec S64x576 32) (τ : Fin 64 → Fin 576 → Fin 576) (ho : ∀ b p, o (ix2 b p) = word (τ b p)) :
    ∃ σ : Fin 64 → Fin 20 → Fin 20, (∀ b, Function.Bijective (σ b)) ∧
      ∀ b p, kept20 o (ix2 b p) = word (τ b (Fin.castLE (by decide) (σ b p))) := by
  have s : ∀ b (q : Fin 20), extractStridedSlice S64x20 ![0, 0] o slices_S64x576_S64x20_0_0 (ix2 b q)
      = word (τ b (Fin.castLE (by decide) q)) := by
    intro b q
    rw [← ho]
    pointwise
    rfl
  refine ⟨fun b => sortedFrom fun i j => comparator_i32_d1
      (extractStridedSlice S64x20 ![0, 0] o slices_S64x576_S64x20_0_0 (ix2 b i))
      (extractStridedSlice S64x20 ![0, 0] o slices_S64x576_S64x20_0_0 (ix2 b j)) == 1#1,
    fun b => ⟨sortedFrom_injective _, sortedFrom_surjective _⟩, fun b p => ?_⟩
  exact (sort_ix2 comparator_i32_d1 (extractStridedSlice S64x20 ![0, 0] o slices_S64x576_S64x20_0_0) b p).trans (s b _)

/-- The kept places of each sample, in place order. -/
def kept4 (o : IVec S64x576 32) : IVec S64x4 32 :=
  Host.sort S64x4 1 comparator_i32_d1 (extractStridedSlice S64x4 ![0, 0] o slices_S64x576_S64x4_0_0)

/-- The kept places are the first of the order, in some order of their own. -/
theorem kept4_apply (o : IVec S64x576 32) (τ : Fin 64 → Fin 576 → Fin 576) (ho : ∀ b p, o (ix2 b p) = word (τ b p)) :
    ∃ σ : Fin 64 → Fin 4 → Fin 4, (∀ b, Function.Bijective (σ b)) ∧
      ∀ b p, kept4 o (ix2 b p) = word (τ b (Fin.castLE (by decide) (σ b p))) := by
  have s : ∀ b (q : Fin 4), extractStridedSlice S64x4 ![0, 0] o slices_S64x576_S64x4_0_0 (ix2 b q)
      = word (τ b (Fin.castLE (by decide) q)) := by
    intro b q
    rw [← ho]
    pointwise
    rfl
  refine ⟨fun b => sortedFrom fun i j => comparator_i32_d1
      (extractStridedSlice S64x4 ![0, 0] o slices_S64x576_S64x4_0_0 (ix2 b i))
      (extractStridedSlice S64x4 ![0, 0] o slices_S64x576_S64x4_0_0 (ix2 b j)) == 1#1,
    fun b => ⟨sortedFrom_injective _, sortedFrom_surjective _⟩, fun b p => ?_⟩
  exact (sort_ix2 comparator_i32_d1 (extractStridedSlice S64x4 ![0, 0] o slices_S64x576_S64x4_0_0) b p).trans (s b _)

end Cert.Ref
-- ==== Proof.RMatch.lean ====
module

public import proofs.«01_k».proof.Proof.RSort

@[expose] public section

set_option maxRecDepth 16384

noncomputable section

/-! One matching of the reference: the mean squared difference between the kept places' features and their nearest places'. -/

namespace Cert.Ref

open Idealize.ShloMosaic Idealize.SL.Sem Cert.ReferenceIdeal Cert.ReferenceIdeal.Gen Cert.Math

/-! ### Distances -/

/-- Feature distances. -/
def distF (x y : FVec Ideal S64x576x768 .f32) : FVec Ideal S64x576x576 .f32 :=
  Host.sqrt (maximumf (subf (addf
      (broadcastInDim S64x576x576 ![0, 1, 2] bcast_S64x576x1_S64x576x576_0_1_2
        (broadcastInDim S64x576x1 ![0, 1] bcast_S64x576_S64x576x1_0_1
          (Host.reduceAdd (mulf x x) (constant (F := Ideal) S_ .f32 0x00000000#32) reducesTo_S64x576x768_S64x576_d2 h_S_)))
      (broadcastInDim S64x576x576 ![0, 1, 2] bcast_S64x1x576_S64x576x576_0_1_2
        (broadcastInDim S64x1x576 ![0, 2] bcast_S64x576_S64x1x576_0_2
          (Host.reduceAdd (mulf y y) (constant (F := Ideal) S_ .f32 0x00000000#32) reducesTo_S64x576x768_S64x576_d2 h_S_))))
    (mulf (broadcastInDim S64x576x576 ![] bcast_S_S64x576x576 (constant (F := Ideal) S_ .f32 0x40000000#32))
      (Host.dotGeneral dot_S64x576x768_S64x576x768_S64x576x576_2_2_1_1_0_0 none x y)))
    (broadcastInDim S64x576x576 ![] bcast_S_S64x576x576 (constant (F := Ideal) S_ .f32 0x00000000#32)))

/-- Location distances. -/
def distL (x y : FVec Ideal S64x576x2 .f32) : FVec Ideal S64x576x576 .f32 :=
  Host.sqrt (maximumf (subf (addf
      (broadcastInDim S64x576x576 ![0, 1, 2] bcast_S64x576x1_S64x576x576_0_1_2
        (broadcastInDim S64x576x1 ![0, 1] bcast_S64x576_S64x576x1_0_1
          (Host.reduceAdd (mulf x x) (constant (F := Ideal) S_ .f32 0x00000000#32) reducesTo_S64x576x2_S64x576_d2 h_S_)))
      (broadcastInDim S64x576x576 ![0, 1, 2] bcast_S64x1x576_S64x576x576_0_1_2
        (broadcastInDim S64x1x576 ![0, 2] bcast_S64x576_S64x1x576_0_2
          (Host.reduceAdd (mulf y y) (constant (F := Ideal) S_ .f32 0x00000000#32) reducesTo_S64x576x2_S64x576_d2 h_S_))))
    (mulf (broadcastInDim S64x576x576 ![] bcast_S_S64x576x576 (constant (F := Ideal) S_ .f32 0x40000000#32))
      (Host.dotGeneral dot_S64x576x2_S64x576x2_S64x576x576_2_2_1_1_0_0 none x y)))
    (broadcastInDim S64x576x576 ![] bcast_S_S64x576x576 (constant (F := Ideal) S_ .f32 0x00000000#32)))

/-- The square root of a squared distance. -/
theorem sqrt_d2 {n m c : Nat} (x : Fin n → Fin c → ℝ) (y : Fin m → Fin c → ℝ) (i : Fin n) (j : Fin m) :
    Ideal.sqrt (max ((d2 x y i j : ℝ) : EReal) 0) = ((Real.sqrt (d2 x y i j) : ℝ) : EReal) := by
  rw [max_eq_left (by exact_mod_cast d2_nonneg x y i j), sqrt_real (d2_nonneg x y i j)]

/-- Feature distances at real inputs. -/
theorem distF_real (x y : FVec Ideal S64x576x768 .f32) (X Y : Fin 64 → Fin 576 → Fin 768 → ℝ)
    (hx : ∀ b i c, x (ix3 b i c) = ((X b i c : ℝ) : EReal)) (hy : ∀ b i c, y (ix3 b i c) = ((Y b i c : ℝ) : EReal))
    (b : Fin 64) (i j : Fin 576) : distF x y (ix3 b i j) = ((Real.sqrt (d2 (X b) (Y b) i j) : ℝ) : EReal) := by
  unfold distF
  pointwise
  simp only [hx, hy, w_2, ← EReal.coe_mul, coe_sum, ← EReal.coe_add, ← EReal.coe_sub, d2_expand, sqrt_d2]

/-- Location distances at real inputs. -/
theorem distL_real (x y : FVec Ideal S64x576x2 .f32) (X Y : Fin 64 → Fin 576 → Fin 2 → ℝ)
    (hx : ∀ b i c, x (ix3 b i c) = ((X b i c : ℝ) : EReal)) (hy : ∀ b i c, y (ix3 b i c) = ((Y b i c : ℝ) : EReal))
    (b : Fin 64) (i j : Fin 576) : distL x y (ix3 b i j) = ((Real.sqrt (d2 (X b) (Y b) i j) : ℝ) : EReal) := by
  unfold distL
  pointwise
  simp only [hx, hy, w_2, ← EReal.coe_mul, coe_sum, ← EReal.coe_add, ← EReal.coe_sub, d2_expand, sqrt_d2]

/-! ### Nearest distances and nearest places -/

/-- The nearest distances. -/
def nnDist (D : FVec Ideal S64x576x576 .f32) : FVec Ideal S64x576 .f32 :=
  Host.reduce FloatOps.minimumf D (constant (F := Ideal) S_ .f32 0x7F800000#32) reducesTo_S64x576x576_S64x576_d2 h_S_

/-- Each place's word where the nearest distance is attained, a word out of range elsewhere. -/
def hits (D : FVec Ideal S64x576x576 .f32) : IVec S64x576x576 32 :=
  select (cmpf .oeq D (broadcastInDim S64x576x576 ![0, 1, 2] bcast_S64x576x1_S64x576x576_0_1_2
      (broadcastInDim S64x576x1 ![0, 1] bcast_S64x576_S64x576x1_0_1 (nnDist D))))
    (iotaInDim S64x576x576 32 2) (broadcastInDim S64x576x576 ![] bcast_S_S64x576x576 (id (constantI S_ 32 576#32)))

/-- The nearest places. -/
def nnIdx (D : FVec Ideal S64x576x576 .f32) : IVec S64x576 32 :=
  Host.reduce IntOp.minsi (hits D) (constantI S_ 32 2147483647#32) reducesTo_S64x576x576_S64x576_d2 h_S_

/-- The least of the square roots is the square root of the least. -/
theorem low_sqrt (d : Fin 576 → Fin 576 → ℝ) (i : Fin 576) :
    low (fun i j => Real.sqrt (d i j)) i = Real.sqrt (low d i) :=
  (eq_low (fun i j => Real.sqrt (d i j)) i (nn d i) fun j => Real.sqrt_le_sqrt (nn_le d i j)).symm

/-- The nearest distances at real distances. -/
theorem nnDist_real (D : FVec Ideal S64x576x576 .f32) (d : Fin 64 → Fin 576 → Fin 576 → ℝ)
    (hd : ∀ b i j, D (ix3 b i j) = ((Real.sqrt (d b i j) : ℝ) : EReal)) (b : Fin 64) (i : Fin 576) :
    nnDist D (ix2 b i) = ((Real.sqrt (low (d b) i) : ℝ) : EReal) := by
  unfold nnDist
  pointwise
  simp only [hd, w_inf]
  exact (fold_low (fun i j => Real.sqrt (d b i j)) i).trans (congrArg Real.toEReal (low_sqrt (d b) i))

/-- Where the nearest distance is attained. -/
theorem hits_real (D : FVec Ideal S64x576x576 .f32) (d : Fin 64 → Fin 576 → Fin 576 → ℝ) (h0 : ∀ b i j, 0 ≤ d b i j)
    (hd : ∀ b i j, D (ix3 b i j) = ((Real.sqrt (d b i j) : ℝ) : EReal)) (b : Fin 64) (i j : Fin 576) :
    hits D (ix3 b i j) = if d b i j = low (d b) i then word j else 576#32 := by
  have e : (broadcastInDim S64x576x576 ![0, 1, 2] bcast_S64x576x1_S64x576x576_0_1_2
      (broadcastInDim S64x576x1 ![0, 1] bcast_S64x576_S64x576x1_0_1 (nnDist D))) (ix3 b i j) = nnDist D (ix2 b i) := by
    pointwise
  unfold hits
  show Scalar.select (BitVec.ofBool (decide ((D (ix3 b i j) : EReal) = broadcastInDim S64x576x576 ![0, 1, 2] bcast_S64x576x1_S64x576x576_0_1_2
      (broadcastInDim S64x576x1 ![0, 1] bcast_S64x576_S64x576x1_0_1 (nnDist D)) (ix3 b i j)))) (word j) 576#32 = _
  rw [e, hd, nnDist_real D d hd]
  by_cases hc : d b i j = low (d b) i
  · simp [hc, Scalar.select]
  · have : ¬ Real.sqrt (d b i j) = Real.sqrt (low (d b) i) := fun h => hc ((Real.sqrt_inj (h0 _ _ _) (h0 _ _ _)).mp h)
    simp [hc, this, Scalar.select]

/-- A fold of the signed minimum gives one of its words, none above any. -/
theorem foldl_minsi {ι : Type} (f : ι → BitVec 32) (l : List ι) (init : BitVec 32) :
    (l.foldl (fun r n => IntOp.minsi r (f n)) init = init ∨ ∃ n ∈ l, l.foldl (fun r n => IntOp.minsi r (f n)) init = f n)
    ∧ (l.foldl (fun r n => IntOp.minsi r (f n)) init).toInt ≤ init.toInt
    ∧ ∀ n ∈ l, (l.foldl (fun r n => IntOp.minsi r (f n)) init).toInt ≤ (f n).toInt := by
  induction l generalizing init with
  | nil => simp
  | cons a l ih =>
    obtain ⟨h1, h2, h3⟩ := ih (IntOp.minsi init (f a))
    have hm : IntOp.minsi init (f a) = (if init.toInt < (f a).toInt then init else f a) := by
      unfold IntOp.minsi
      simp only [BitVec.slt, decide_eq_true_eq]
    have ha : (IntOp.minsi init (f a)).toInt ≤ init.toInt ∧ (IntOp.minsi init (f a)).toInt ≤ (f a).toInt := by
      rw [hm]; split <;> constructor <;> omega
    refine ⟨?_, h2.trans ha.1, ?_⟩
    · rcases h1 with h1 | ⟨n, hn, h1⟩
      · rw [List.foldl_cons, h1, hm]
        split
        · exact Or.inl rfl
        · exact Or.inr ⟨a, List.mem_cons_self .., rfl⟩
      · exact Or.inr ⟨n, List.mem_cons_of_mem _ hn, h1⟩
    · intro n hn
      rcases List.mem_cons.mp hn with rfl | hn
      · exact h2.trans ha.2
      · exact h3 n hn

/-- The nearest place the reference finds is a place at which the nearest distance is attained. -/
theorem nnIdx_real (D : FVec Ideal S64x576x576 .f32) (d : Fin 64 → Fin 576 → Fin 576 → ℝ) (h0 : ∀ b i j, 0 ≤ d b i j)
    (hd : ∀ b i j, D (ix3 b i j) = ((Real.sqrt (d b i j) : ℝ) : EReal)) (b : Fin 64) (i : Fin 576) :
    ∃ j, nnIdx D (ix2 b i) = word j ∧ d b i j = low (d b) i := by
  have hr := Host.reduce_eq_foldl IntOp.minsi (hits D) (constantI S_ 32 2147483647#32) reducesTo_S64x576x576_S64x576_d2 h_S_ (ix2 b i)
  have hq : ∀ q : S64x576x576.Idx, reducesTo_S64x576x576_S64x576_d2.drop q = ix2 b i → ∃ j, q = ix3 b i j := by
    intro q hq
    refine ⟨q 2, (eq_ix3 q).trans ?_⟩
    have e0 : q 0 = b := Fin.ext ((Shape.ReducesTo.drop_apply_val reducesTo_S64x576x576_S64x576_d2 q 0).symm.trans
      (congrArg Fin.val (congrFun hq 0)))
    have e1 : q 1 = i := Fin.ext ((Shape.ReducesTo.drop_apply_val reducesTo_S64x576x576_S64x576_d2 q 1).symm.trans
      (congrArg Fin.val (congrFun hq 1)))
    rw [← e0, ← e1]
  have hm : reducesTo_S64x576x576_S64x576_d2.drop (ix3 b i (nn (d b) i)) = ix2 b i := by
    funext a
    match a with
    | ⟨0, _⟩ => exact Fin.ext (Shape.ReducesTo.drop_apply_val reducesTo_S64x576x576_S64x576_d2 _ 0)
    | ⟨1, _⟩ => exact Fin.ext (Shape.ReducesTo.drop_apply_val reducesTo_S64x576x576_S64x576_d2 _ 1)
  obtain ⟨h1, h2, h3⟩ := foldl_minsi (hits D) ((((List.finRange S64x576x576.numel).map S64x576x576.rowMajor.symm).filter
    fun q => reducesTo_S64x576x576_S64x576_d2.drop q = ix2 b i)) 2147483647#32
  have hn : nnIdx D (ix2 b i) = (((List.finRange S64x576x576.numel).map S64x576x576.rowMajor.symm).filter
    fun q => reducesTo_S64x576x576_S64x576_d2.drop q = ix2 b i).foldl (fun r n => IntOp.minsi r (hits D n)) 2147483647#32 := hr
  rw [← hn] at h1 h2 h3
  have hw : ∀ n : Fin 576, (word n).toInt = (n.val : Int) := fun n => WordCmp.toInt_ofNat_of_lt (by omega)
  have hlt : (nnIdx D (ix2 b i)).toInt < 576 := by
    have := h3 (ix3 b i (nn (d b) i)) (by
      rw [List.mem_filter]
      exact ⟨List.mem_map.2 ⟨S64x576x576.rowMajor _, List.mem_finRange _, Equiv.symm_apply_apply _ _⟩, by simp [hm]⟩)
    rw [hits_real D d h0 hd, if_pos (show d b i (nn (d b) i) = low (d b) i from rfl), hw] at this
    omega
  rcases h1 with h1 | ⟨q, hmem, h1⟩
  · rw [h1] at hlt
    exact absurd hlt (by decide)
  · obtain ⟨j, rfl⟩ := hq q (by simpa using (List.mem_filter.mp hmem).2)
    rw [hits_real D d h0 hd] at h1
    by_cases hc : d b i j = low (d b) i
    · exact ⟨j, by rw [h1, if_pos hc], hc⟩
    · rw [if_neg hc] at h1
      rw [h1] at hlt
      exact absurd hlt (by decide)

/-! ### The matchings -/

/-- The value of a constant's word. -/
theorem w_rows20 : Ideal.ofBits .f32 0x49700000#32 = ((983040 : ℝ) : EReal) := by
  simp [Ideal.ofBits, Ideal.ieee]; norm_num; rw [← EReal.coe_mul]; norm_num
/-- The value of a constant's word. -/
theorem w_rows4 : Ideal.ofBits .f32 0x48400000#32 = ((196608 : ℝ) : EReal) := by
  simp [Ideal.ofBits, Ideal.ieee]; norm_num; rw [← EReal.coe_mul]; norm_num

/-- Half the mean squared difference of two sets of rows. -/
def halfMse20 (f g : FVec Ideal S64x20x768 .f32) : FVec Ideal S_ .f32 :=
  Host.divf (Host.divf (Host.reduceAdd (mulf (subf f g) (subf f g)) (constant (F := Ideal) S_ .f32 0x00000000#32)
    reducesTo_S64x20x768_S_d0_1_2 h_S_) (constant (F := Ideal) S_ .f32 0x49700000#32)) (constant (F := Ideal) S_ .f32 0x40000000#32)

/-- One matching keeping 20 places a sample. -/
def matching20 (x y : FVec Ideal S64x576x768 .f32) (D : FVec Ideal S64x576x576 .f32) : FVec Ideal S_ .f32 :=
  halfMse20
    (takeRows20 x (broadcastInDim S64x20x1 ![0, 1] bcast_S64x20_S64x20x1_0_1 (kept20 (order (nnDist D)))))
    (takeRows20 y (broadcastInDim S64x20x1 ![0, 1] bcast_S64x20_S64x20x1_0_1
      (takeWords20 (nnIdx D) (kept20 (order (nnDist D))))))

/-- Half the mean squared difference at real rows. -/
theorem halfMse20_real (f g : FVec Ideal S64x20x768 .f32) (P Q : Fin 64 → Fin 20 → Fin 768 → ℝ)
    (hf : ∀ b p c, f (ix3 b p c) = ((P b p c : ℝ) : EReal)) (hg : ∀ b p c, g (ix3 b p c) = ((Q b p c : ℝ) : EReal)) :
    halfMse20 f g ix0 = (((∑ b, ∑ p, ∑ c, (P b p c - Q b p c) ^ 2) / 1966080 : ℝ) : EReal) := by
  unfold halfMse20
  pointwise
  simp only [hf, hg, ← EReal.coe_mul, ← EReal.coe_sub, coe_sum, w_2, w_rows20, div_real _ (by norm_num : (983040 : ℝ) ≠ 0),
    div_real _ (by norm_num : (2 : ℝ) ≠ 0), div_div]
  refine congrArg Real.toEReal ?_
  norm_num [sq]

/-- One matching at real inputs: the squared differences added up over the places with the 20 least nearest distances. -/
theorem matching20_real (x y : FVec Ideal S64x576x768 .f32) (D : FVec Ideal S64x576x576 .f32)
    (X Y : Fin 64 → Fin 576 → Fin 768 → ℝ) (d : Fin 64 → Fin 576 → Fin 576 → ℝ)
    (hx : ∀ b i c, x (ix3 b i c) = ((X b i c : ℝ) : EReal)) (hy : ∀ b i c, y (ix3 b i c) = ((Y b i c : ℝ) : EReal))
    (h0 : ∀ b i j, 0 ≤ d b i j) (hd : ∀ b i j, D (ix3 b i j) = ((Real.sqrt (d b i j) : ℝ) : EReal))
    (hi : ∀ b, Function.Injective (low (d b))) (G : Fin 64 → Fin 576 → ℝ)
    (hG : ∀ b i j, d b i j = low (d b) i → d2 (X b) (Y b) i j = G b i) :
    matching20 x y D = fun _ => (((∑ b, selSum 20 (low (d b)) (G b)) / 1966080 : ℝ) : EReal) := by
  choose J hJ hJd using nnIdx_real D d h0 hd
  obtain ⟨σ, hσ, hk⟩ := kept20_apply (order (nnDist D)) (fun b => perm fun i => Real.sqrt (low (d b) i))
    (order_apply (nnDist D) (fun b i => Real.sqrt (low (d b) i)) (nnDist_real D d hd))
  have hw : ∀ b p, takeWords20 (nnIdx D) (kept20 (order (nnDist D))) (ix2 b p) = _ := fun b p =>
    (takeWords20_apply (nnIdx D) _ _ hk b p).trans (hJ b _)
  have bc : ∀ (s : IVec S64x20 32) b p (z : Fin 1),
      broadcastInDim S64x20x1 ![0, 1] bcast_S64x20_S64x20x1_0_1 s (ix3 b p z) = s (ix2 b p) := by
    intro s b p z
    pointwise
  have key : ∀ b p q, p < q → low (d b) (perm (fun i => Real.sqrt (low (d b) i)) p)
      < low (d b) (perm (fun i => Real.sqrt (low (d b) i)) q) := fun b p q hpq =>
    (Real.sqrt_lt_sqrt_iff (h0 _ _ _)).mp (perm_lt (fun i => Real.sqrt (low (d b) i))
      (fun i j hij => hi b ((Real.sqrt_inj (h0 _ _ _) (h0 _ _ _)).mp hij)) p q hpq)
  funext j
  rw [show j = ix0 from Subsingleton.elim _ _]
  unfold matching20
  rw [halfMse20_real _ _ _ _
    (fun b p c => (takeRows20_apply x _ _ (fun b p z => (bc _ b p z).trans (hk b p)) b p c).trans (hx b _ c))
    (fun b p c => (takeRows20_apply y _ _ (fun b p z => (bc _ b p z).trans (hw b p)) b p c).trans (hy b _ c))]
  refine congrArg (fun s : ℝ => ((s / 1966080 : ℝ) : EReal)) (Finset.sum_congr rfl fun b _ => ?_)
  rw [← selSum_sorted (by decide : 20 ≤ 576) (perm fun i => Real.sqrt (low (d b) i)) (perm_bijective _) (key b) (G b)]
  rw [← (Function.Bijective.sum_comp (hσ b) fun p => G b (perm (fun i => Real.sqrt (low (d b) i)) (Fin.castLE (by decide) p)))]
  exact Finset.sum_congr rfl fun p _ => hG b _ _ (hJd b _)

/-- Half the mean squared difference of two sets of rows. -/
def halfMse4 (f g : FVec Ideal S64x4x768 .f32) : FVec Ideal S_ .f32 :=
  Host.divf (Host.divf (Host.reduceAdd (mulf (subf f g) (subf f g)) (constant (F := Ideal) S_ .f32 0x00000000#32)
    reducesTo_S64x4x768_S_d0_1_2 h_S_) (constant (F := Ideal) S_ .f32 0x48400000#32)) (constant (F := Ideal) S_ .f32 0x40000000#32)

/-- One matching keeping 4 places a sample. -/
def matching4 (x y : FVec Ideal S64x576x768 .f32) (D : FVec Ideal S64x576x576 .f32) : FVec Ideal S_ .f32 :=
  halfMse4
    (takeRows4 x (broadcastInDim S64x4x1 ![0, 1] bcast_S64x4_S64x4x1_0_1 (kept4 (order (nnDist D)))))
    (takeRows4 y (broadcastInDim S64x4x1 ![0, 1] bcast_S64x4_S64x4x1_0_1
      (takeWords4 (nnIdx D) (kept4 (order (nnDist D))))))

/-- Half the mean squared difference at real rows. -/
theorem halfMse4_real (f g : FVec Ideal S64x4x768 .f32) (P Q : Fin 64 → Fin 4 → Fin 768 → ℝ)
    (hf : ∀ b p c, f (ix3 b p c) = ((P b p c : ℝ) : EReal)) (hg : ∀ b p c, g (ix3 b p c) = ((Q b p c : ℝ) : EReal)) :
    halfMse4 f g ix0 = (((∑ b, ∑ p, ∑ c, (P b p c - Q b p c) ^ 2) / 393216 : ℝ) : EReal) := by
  unfold halfMse4
  pointwise
  simp only [hf, hg, ← EReal.coe_mul, ← EReal.coe_sub, coe_sum, w_2, w_rows4, div_real _ (by norm_num : (196608 : ℝ) ≠ 0),
    div_real _ (by norm_num : (2 : ℝ) ≠ 0), div_div]
  refine congrArg Real.toEReal ?_
  norm_num [sq]

/-- One matching at real inputs: the squared differences added up over the places with the 4 least nearest distances. -/
theorem matching4_real (x y : FVec Ideal S64x576x768 .f32) (D : FVec Ideal S64x576x576 .f32)
    (X Y : Fin 64 → Fin 576 → Fin 768 → ℝ) (d : Fin 64 → Fin 576 → Fin 576 → ℝ)
    (hx : ∀ b i c, x (ix3 b i c) = ((X b i c : ℝ) : EReal)) (hy : ∀ b i c, y (ix3 b i c) = ((Y b i c : ℝ) : EReal))
    (h0 : ∀ b i j, 0 ≤ d b i j) (hd : ∀ b i j, D (ix3 b i j) = ((Real.sqrt (d b i j) : ℝ) : EReal))
    (hi : ∀ b, Function.Injective (low (d b))) (G : Fin 64 → Fin 576 → ℝ)
    (hG : ∀ b i j, d b i j = low (d b) i → d2 (X b) (Y b) i j = G b i) :
    matching4 x y D = fun _ => (((∑ b, selSum 4 (low (d b)) (G b)) / 393216 : ℝ) : EReal) := by
  choose J hJ hJd using nnIdx_real D d h0 hd
  obtain ⟨σ, hσ, hk⟩ := kept4_apply (order (nnDist D)) (fun b => perm fun i => Real.sqrt (low (d b) i))
    (order_apply (nnDist D) (fun b i => Real.sqrt (low (d b) i)) (nnDist_real D d hd))
  have hw : ∀ b p, takeWords4 (nnIdx D) (kept4 (order (nnDist D))) (ix2 b p) = _ := fun b p =>
    (takeWords4_apply (nnIdx D) _ _ hk b p).trans (hJ b _)
  have bc : ∀ (s : IVec S64x4 32) b p (z : Fin 1),
      broadcastInDim S64x4x1 ![0, 1] bcast_S64x4_S64x4x1_0_1 s (ix3 b p z) = s (ix2 b p) := by
    intro s b p z
    pointwise
  have key : ∀ b p q, p < q → low (d b) (perm (fun i => Real.sqrt (low (d b) i)) p)
      < low (d b) (perm (fun i => Real.sqrt (low (d b) i)) q) := fun b p q hpq =>
    (Real.sqrt_lt_sqrt_iff (h0 _ _ _)).mp (perm_lt (fun i => Real.sqrt (low (d b) i))
      (fun i j hij => hi b ((Real.sqrt_inj (h0 _ _ _) (h0 _ _ _)).mp hij)) p q hpq)
  funext j
  rw [show j = ix0 from Subsingleton.elim _ _]
  unfold matching4
  rw [halfMse4_real _ _ _ _
    (fun b p c => (takeRows4_apply x _ _ (fun b p z => (bc _ b p z).trans (hk b p)) b p c).trans (hx b _ c))
    (fun b p c => (takeRows4_apply y _ _ (fun b p z => (bc _ b p z).trans (hw b p)) b p c).trans (hy b _ c))]
  refine congrArg (fun s : ℝ => ((s / 393216 : ℝ) : EReal)) (Finset.sum_congr rfl fun b _ => ?_)
  rw [← selSum_sorted (by decide : 4 ≤ 576) (perm fun i => Real.sqrt (low (d b) i)) (perm_bijective _) (key b) (G b)]
  rw [← (Function.Bijective.sum_comp (hσ b) fun p => G b (perm (fun i => Real.sqrt (low (d b) i)) (Fin.castLE (by decide) p)))]
  exact Finset.sum_congr rfl fun p _ => hG b _ _ (hJd b _)

end Cert.Ref
-- ==== Proof.RGlobal.lean ====
module

public import proofs.«01_k».proof.Proof.RMatch
public import proofs.«01_k».proof.Proof.Data

@[expose] public section

set_option maxRecDepth 16384

noncomputable section

/-! The reference's global part: invariance, variance and covariance of the two embeddings. -/

namespace Cert.Ref

open Idealize.ShloMosaic Idealize.SL.Sem Cert.ReferenceIdeal Cert.ReferenceIdeal.Gen Cert.Math Cert.KFinal

/-! ### Invariance -/

/-- The mean squared difference. -/
def invariance (x y : FVec Ideal S64x8192 .f32) : FVec Ideal S_ .f32 :=
  Host.divf (Host.reduceAdd (mulf (subf x y) (subf x y)) (constant (F := Ideal) S_ .f32 0x00000000#32)
    reducesTo_S64x8192_S_d0_1 h_S_) (constant (F := Ideal) S_ .f32 0x49000000#32)

/-- The mean squared difference at real numbers. -/
theorem invariance_real (X Y : FVec Ideal S64x8192 .f32) (x y : Fin 64 → Fin 8192 → ℝ)
    (hx : ∀ a d, X (ix2 a d) = ((x a d : ℝ) : EReal)) (hy : ∀ a d, Y (ix2 a d) = ((y a d : ℝ) : EReal)) :
    invariance X Y ix0 = ((mse x y : ℝ) : EReal) := by
  unfold invariance
  pointwise
  simp only [hx, hy, coe_sum, ← EReal.coe_sub, ← EReal.coe_mul, w_524288, div_real _ (by norm_num : (524288 : ℝ) ≠ 0)]
  rfl

/-! ### Variance -/

/-- The deviations from the column means, the mean taken with a kept axis. -/
def deviation (x : FVec Ideal S64x8192 .f32) : FVec Ideal S64x8192 .f32 :=
  subf x (broadcastInDim S64x8192 ![0, 1] bcast_S1x8192_S64x8192_0_1
    (Host.divf (broadcastInDim S1x8192 ![1] bcast_S8192_S1x8192_1
        (Host.reduceAdd x (constant (F := Ideal) S_ .f32 0x00000000#32) reducesTo_S64x8192_S8192_d0 h_S_))
      (broadcastInDim S1x8192 ![] bcast_S_S1x8192 (constant (F := Ideal) S_ .f32 0x42800000#32))))

/-- The divisor of the unbiased variance: the number of rows less one. -/
def rowsLess : FVec Ideal S_ .f32 :=
  subf (constant (F := Ideal) S_ .f32 0x42800000#32) (sitofp .f32 (constantI S_ 32 1#32))

/-- The columns' unbiased variances, guarded against a divisor that is not positive. -/
def variances (x : FVec Ideal S64x8192 .f32) : FVec Ideal S8192 .f32 :=
  select (broadcastInDim S8192 ![] bcast_S_S8192 (cmpf .ogt rowsLess (constant (F := Ideal) S_ .f32 0x00000000#32)))
    (Host.divf (Host.reduceAdd (mulf (deviation x) (deviation x)) (constant (F := Ideal) S_ .f32 0x00000000#32)
        reducesTo_S64x8192_S8192_d0 h_S_) (broadcastInDim S8192 ![] bcast_S_S8192 rowsLess))
    (broadcastInDim S8192 ![] bcast_S_S8192 (id (constant (F := Ideal) S_ .f32 0x7FC00000#32)))

/-- The variance loss of one embedding. -/
def variance (x : FVec Ideal S64x8192 .f32) : FVec Ideal S_ .f32 :=
  Host.divf (Host.reduceAdd (maximumf (subf (broadcastInDim S8192 ![] bcast_S_S8192 (constant (F := Ideal) S_ .f32 0x3F800000#32))
        (Host.sqrt (addf (variances x) (broadcastInDim S8192 ![] bcast_S_S8192 (constant (F := Ideal) S_ .f32 0x38D1B717#32)))))
      (broadcastInDim S8192 ![] bcast_S_S8192 (constant (F := Ideal) S_ .f32 0x00000000#32)))
    (constant (F := Ideal) S_ .f32 0x00000000#32) reducesTo_S8192_S_d0 h_S_) (constant (F := Ideal) S_ .f32 0x46000000#32)

/-- The deviations at real numbers. -/
theorem deviation_real (X : FVec Ideal S64x8192 .f32) (x : Fin 64 → Fin 8192 → ℝ)
    (hx : ∀ a d, X (ix2 a d) = ((x a d : ℝ) : EReal)) (a : Fin 64) (d : Fin 8192) :
    deviation X (ix2 a d) = ((x a d - (∑ b, x b d) / 64 : ℝ) : EReal) := by
  unfold deviation
  pointwise
  simp only [hx, w_64, coe_sum, div_real _ (by norm_num : (64 : ℝ) ≠ 0), ← EReal.coe_sub]

/-- The divisor is 63. -/
theorem rowsLess_real (j : S_.Idx) : rowsLess j = ((63 : ℝ) : EReal) := by
  have e : rowsLess j = Ideal.ofBits .f32 0x42800000#32 - (((1#32 : BitVec 32).toInt : ℝ) : EReal) := rfl
  rw [e, w_64, ← EReal.coe_sub]
  norm_num

/-- The variances at real numbers. -/
theorem variances_real (X : FVec Ideal S64x8192 .f32) (x : Fin 64 → Fin 8192 → ℝ)
    (hx : ∀ a d, X (ix2 a d) = ((x a d : ℝ) : EReal)) (d : Fin 8192) :
    variances X (ix1 d) = ((colVar x d / 63 : ℝ) : EReal) := by
  unfold variances
  pointwise
  simp only [rowsLess_real, deviation_real X x hx, ← EReal.coe_mul, coe_sum, div_real _ (by norm_num : (63 : ℝ) ≠ 0)]
  rw [if_pos (by rw [← EReal.coe_zero]; exact EReal.coe_lt_coe_iff.mpr (by norm_num))]
  rfl

/-- The variance loss at real numbers. -/
theorem variance_real (X : FVec Ideal S64x8192 .f32) (x : Fin 64 → Fin 8192 → ℝ)
    (hx : ∀ a d, X (ix2 a d) = ((x a d : ℝ) : EReal)) : variance X ix0 = ((varLoss x : ℝ) : EReal) := by
  unfold variance
  pointwise
  simp only [variances_real X x hx, w_eps, ← EReal.coe_add,
    sqrt_real (add_nonneg (div_nonneg (colVar_nonneg x _) (by norm_num : (0 : ℝ) ≤ 63)) eps_pos.le),
    ← EReal.coe_one, ← EReal.coe_zero, ← EReal.coe_sub, max_real, coe_sum, w_8192, div_real _ (by norm_num : (8192 : ℝ) ≠ 0)]
  rfl

/-! ### Covariance -/

/-- The deviations from the column means, the mean taken without a kept axis. -/
def centred (x : FVec Ideal S64x8192 .f32) : FVec Ideal S64x8192 .f32 :=
  subf x (broadcastInDim S64x8192 ![0, 1] bcast_S1x8192_S64x8192_0_1
    (broadcastInDim S1x8192 ![1] bcast_S8192_S1x8192_1
      (Host.divf (Host.reduceAdd x (constant (F := Ideal) S_ .f32 0x00000000#32) reducesTo_S64x8192_S8192_d0 h_S_)
        (broadcastInDim S8192 ![] bcast_S_S8192 (constant (F := Ideal) S_ .f32 0x42800000#32)))))

/-- The covariance matrix of the columns. -/
def covMatrix (x : FVec Ideal S64x8192 .f32) : FVec Ideal S8192x8192 .f32 :=
  Host.divf (Host.dotGeneral dot_S8192x64_S64x8192_S8192x8192_1_0_0_1_n_n none
      (transpose S8192x64 [1, 0] (centred x) transposes_S64x8192_S8192x64_1_0) (centred x))
    (broadcastInDim S8192x8192 ![] bcast_S_S8192x8192 (constant (F := Ideal) S_ .f32 0x427C0000#32))

/-- A square matrix's diagonal, zero elsewhere. -/
def diagonal (c : FVec Ideal S8192x8192 .f32) : FVec Ideal S8192x8192 .f32 :=
  select (cmpi .eq (iotaInDim S8192x8192 32 0) (iotaInDim S8192x8192 32 1)) c
    (broadcastInDim S8192x8192 ![] bcast_S_S8192x8192 (id (constant (F := Ideal) S_ .f32 0x00000000#32)))

/-- The covariance loss of one embedding. -/
def covariance (x : FVec Ideal S64x8192 .f32) : FVec Ideal S_ .f32 :=
  Host.divf (Host.reduceAdd (mulf (subf (covMatrix x) (diagonal (covMatrix x))) (subf (covMatrix x) (diagonal (covMatrix x))))
    (constant (F := Ideal) S_ .f32 0x00000000#32) reducesTo_S8192x8192_S_d0_1 h_S_) (constant (F := Ideal) S_ .f32 0x46000000#32)

/-- The centred entries at real numbers. -/
theorem centred_real (X : FVec Ideal S64x8192 .f32) (x : Fin 64 → Fin 8192 → ℝ)
    (hx : ∀ a d, X (ix2 a d) = ((x a d : ℝ) : EReal)) (a : Fin 64) (d : Fin 8192) :
    centred X (ix2 a d) = ((x a d - (∑ b, x b d) / 64 : ℝ) : EReal) := by
  unfold centred
  pointwise
  simp only [hx, w_64, coe_sum, div_real _ (by norm_num : (64 : ℝ) ≠ 0), ← EReal.coe_sub]

/-- The covariance matrix at real numbers. -/
theorem covMatrix_real (X : FVec Ideal S64x8192 .f32) (x : Fin 64 → Fin 8192 → ℝ)
    (hx : ∀ a d, X (ix2 a d) = ((x a d : ℝ) : EReal)) (i j : Fin 8192) :
    covMatrix X (ix2 i j)
      = (((∑ b, (x b i - (∑ e, x e i) / 64) * (x b j - (∑ e, x e j) / 64)) / 63 : ℝ) : EReal) := by
  unfold covMatrix
  pointwise
  simp only [centred_real X x hx, ← EReal.coe_mul, coe_sum, w_63, div_real _ (by norm_num : (63 : ℝ) ≠ 0)]

/-- The diagonal's entries. -/
theorem diagonal_apply (C : FVec Ideal S8192x8192 .f32) (i j : Fin 8192) :
    diagonal C (ix2 i j) = if i = j then C (ix2 i j) else ((0 : ℝ) : EReal) := by
  have hm : cmpi .eq (iotaInDim S8192x8192 32 0) (iotaInDim S8192x8192 32 1) (ix2 i j)
      = BitVec.ofBool (BitVec.ofNat 32 i.val == BitVec.ofNat 32 j.val) := rfl
  have hb : (BitVec.ofNat 32 i.val == BitVec.ofNat 32 j.val) = decide (i = j) := by
    rw [Bool.eq_iff_iff, beq_iff_eq, decide_eq_true_iff]
    constructor
    · intro h
      have := congrArg BitVec.toNat h
      simp only [BitVec.toNat_ofNat] at this
      have hi := i.isLt
      have hj := j.isLt
      exact Fin.ext (by omega)
    · rintro rfl; rfl
  unfold diagonal
  rw [show ∀ (p : IVec S8192x8192 1) (a b : FVec Ideal S8192x8192 .f32) k, select p a b k = if p k = 1#1 then a k else b k
    from fun _ _ _ _ => rfl, hm, hb]
  by_cases h : i = j
  · rw [if_pos h, decide_eq_true h]; rfl
  · rw [if_neg h, decide_eq_false h, if_neg (by decide)]
    exact (by simp [Ideal.ofBits, Ideal.ieee] : Ideal.ofBits .f32 0x00000000#32 = ((0 : ℝ) : EReal))

/-- The covariance loss at real numbers. -/
theorem covariance_real (X : FVec Ideal S64x8192 .f32) (x : Fin 64 → Fin 8192 → ℝ)
    (hx : ∀ a d, X (ix2 a d) = ((x a d : ℝ) : EReal)) : covariance X ix0 = ((covLoss x : ℝ) : EReal) := by
  have hc : ∀ i j, subf (covMatrix X) (diagonal (covMatrix X)) (ix2 i j)
      = (((∑ b, (x b i - (∑ e, x e i) / 64) * (x b j - (∑ e, x e j) / 64)) / 63
        - if i = j then (∑ b, (x b i - (∑ e, x e i) / 64) * (x b j - (∑ e, x e j) / 64)) / 63 else 0 : ℝ) : EReal) := by
    intro i j
    show covMatrix X (ix2 i j) - diagonal (covMatrix X) (ix2 i j) = _
    rw [diagonal_apply, covMatrix_real X x hx]
    split <;> rw [← EReal.coe_sub]
  have e : covariance X ix0 = Ideal.div (∑ i : Fin 8192, ∑ j : Fin 8192,
      subf (covMatrix X) (diagonal (covMatrix X)) (ix2 i j) * subf (covMatrix X) (diagonal (covMatrix X)) (ix2 i j))
      (Ideal.ofBits .f32 0x46000000#32) := by
    unfold covariance
    generalize subf (covMatrix X) (diagonal (covMatrix X)) = C
    pointwise
  rw [e]
  simp only [hc, ← EReal.coe_mul, coe_sum, w_8192, div_real _ (by norm_num : (8192 : ℝ) ≠ 0)]
  have := cov_eq (fun b d => x b d - (∑ e, x e d) / 64) 63
  simp only [sq] at this
  refine congrArg Real.toEReal ?_
  unfold covLoss colVar
  norm_num at this ⊢
  exact this

/-! ### The weighted sum -/

/-- The global part. -/
def globalPart (x y : FVec Ideal S64x8192 .f32) : FVec Ideal S_ .f32 :=
  addf (addf (mulf (constant (F := Ideal) S_ .f32 0x41C80000#32) (invariance x y))
      (mulf (constant (F := Ideal) S_ .f32 0x41C80000#32)
        (mulf (constant (F := Ideal) S_ .f32 0x3F000000#32) (addf (variance x) (variance y)))))
    (mulf (constant (F := Ideal) S_ .f32 0x3F800000#32) (addf (covariance x) (covariance y)))

/-- The global part at real numbers. -/
theorem globalPart_real (X Y : FVec Ideal S64x8192 .f32) (x y : Fin 64 → Fin 8192 → ℝ)
    (hx : ∀ a d, X (ix2 a d) = ((x a d : ℝ) : EReal)) (hy : ∀ a d, Y (ix2 a d) = ((y a d : ℝ) : EReal)) :
    globalPart X Y ix0
      = ((25 * mse x y + 12.5 * (varLoss x + varLoss y) + (covLoss x + covLoss y) : ℝ) : EReal) := by
  have e : globalPart X Y ix0 = Ideal.ofBits .f32 0x41C80000#32 * invariance X Y ix0
      + Ideal.ofBits .f32 0x41C80000#32 * (Ideal.ofBits .f32 0x3F000000#32 * (variance X ix0 + variance Y ix0))
      + Ideal.ofBits .f32 0x3F800000#32 * (covariance X ix0 + covariance Y ix0) := rfl
  rw [e, invariance_real X Y x y hx hy, variance_real X x hx, variance_real Y y hy, covariance_real X x hx,
    covariance_real Y y hy, w_25, w_half, w_1]
  simp only [← EReal.coe_add, ← EReal.coe_mul]
  refine congrArg Real.toEReal ?_
  ring

end Cert.Ref
-- ==== Proof.RValue.lean ====
module

public import proofs.«01_k».proof.Proof.RGlobal
public import proofs.«01_k».proof.Proof.KValue
public import proofs.«01_k».proof.Proof.Gen.ReferenceIdeal.Read

@[expose] public section

set_option maxRecDepth 16384

noncomputable section

/-! The reference's value at real inputs without ties. -/

namespace Cert.Ref

open Idealize.ShloMosaic Idealize.SL.Sem Cert.ReferenceIdeal Cert.ReferenceIdeal.Gen Cert.ReferenceIdeal.Read Cert.Math Cert.KFinal Cert.Data

/-- A feature map with its places in one row. -/
abbrev places (x : FVec Ideal S64x24x24x768 .f32) : FVec Ideal S64x576x768 .f32 :=
  shapeCast _ x shapeCasts_S64x24x24x768_S64x576x768

/-- A location map with its places in one row. -/
abbrev points (x : FVec Ideal S64x24x24x2 .f32) : FVec Ideal S64x576x2 .f32 :=
  shapeCast _ x shapeCasts_S64x24x24x2_S64x576x2

/-- The loss, from the global part and the four matchings. -/
def loss (a0 a1 : FVec Ideal S64x8192 .f32) (a2 a3 : FVec Ideal S64x24x24x768 .f32) (a4 a5 : FVec Ideal S64x24x24x2 .f32) :
    FVec Ideal S_ .f32 :=
  addf (mulf (constant (F := Ideal) S_ .f32 0x3E800000#32) (globalPart a0 a1))
    (mulf (constant (F := Ideal) S_ .f32 0x3F400000#32)
      (mulf (constant (F := Ideal) S_ .f32 0x41C80000#32)
        (addf (addf (addf (matching20 (places a2) (places a3) (distF (places a2) (places a3)))
            (matching4 (places a3) (places a2) (distF (places a3) (places a2))))
            (matching20 (places a2) (places a3) (distL (points a4) (points a5))))
          (matching4 (places a3) (places a2) (distL (points a5) (points a4))))))

/-- The reference's first part is the global part. -/
theorem v65_eq (a0 a1 : FVec Ideal S64x8192 .f32) : val_main_v65 (F := Ideal) a0 a1 = globalPart a0 a1 := rfl

/-- The reference's matching of features, first map to second. -/
theorem v136_eq (a2 a3 : FVec Ideal S64x24x24x768 .f32) :
    val_main_v136 (F := Ideal) a2 a3 = matching20 (places a2) (places a3) (distF (places a2) (places a3)) := rfl

/-- The reference's matching of features, second map to first. -/
theorem v141_eq (a2 a3 : FVec Ideal S64x24x24x768 .f32) :
    val_main_v141 (F := Ideal) a2 a3 = matching4 (places a3) (places a2) (distF (places a3) (places a2)) := rfl

/-- The reference's matching by locations, first map to second. -/
theorem v209_eq (a2 a3 : FVec Ideal S64x24x24x768 .f32) (a4 a5 : FVec Ideal S64x24x24x2 .f32) :
    val_main_v209 (F := Ideal) a2 a3 a4 a5 = matching20 (places a2) (places a3) (distL (points a4) (points a5)) := rfl

/-- The reference's matching by locations, second map to first. -/
theorem v215_eq (a2 a3 : FVec Ideal S64x24x24x768 .f32) (a4 a5 : FVec Ideal S64x24x24x2 .f32) :
    val_main_v215 (F := Ideal) a2 a3 a4 a5 = matching4 (places a3) (places a2) (distL (points a5) (points a4)) := rfl

/-- The reference's result is the loss. -/
theorem v220_eq (a0 a1 : FVec Ideal S64x8192 .f32) (a2 a3 : FVec Ideal S64x24x24x768 .f32) (a4 a5 : FVec Ideal S64x24x24x2 .f32) :
    val_main_v220 (F := Ideal) a0 a1 a2 a3 a4 a5 = loss a0 a1 a2 a3 a4 a5 := by
  unfold loss
  rw [← v65_eq, ← v136_eq, ← v141_eq, ← v209_eq, ← v215_eq]
  rfl

/-- The loss at real inputs without ties. -/
theorem loss_real {r : Reals} {a0 a1 : FVec Ideal S64x8192 .f32} {a2 a3 : FVec Ideal S64x24x24x768 .f32}
    {a4 a5 : FVec Ideal S64x24x24x2 .f32} (h : KRun.Holds r a0 a1 a2 a3 a4 a5) (ht : r.NoTies) :
    loss a0 a1 a2 a3 a4 a5 = fun _ => ((r.answer : ℝ) : EReal) := by
  have hx : ∀ b i c, places a2 (ix3 b i c) = ((r.X b i c : ℝ) : EReal) := h.x
  have hy : ∀ b i c, places a3 (ix3 b i c) = ((r.Y b i c : ℝ) : EReal) := h.y
  have hu : ∀ b i c, points a4 (ix3 b i c) = ((r.U b i c : ℝ) : EReal) := h.u
  have hv : ∀ b i c, points a5 (ix3 b i c) = ((r.V b i c : ℝ) : EReal) := h.v
  have e : loss a0 a1 a2 a3 a4 a5 ix0 = Ideal.ofBits .f32 0x3E800000#32 * globalPart a0 a1 ix0
      + Ideal.ofBits .f32 0x3F400000#32 * (Ideal.ofBits .f32 0x41C80000#32
        * (matching20 (places a2) (places a3) (distF (places a2) (places a3)) ix0
          + matching4 (places a3) (places a2) (distF (places a3) (places a2)) ix0
          + matching20 (places a2) (places a3) (distL (points a4) (points a5)) ix0
          + matching4 (places a3) (places a2) (distL (points a5) (points a4)) ix0)) := rfl
  funext j
  rw [show j = ix0 from Subsingleton.elim _ _, e, globalPart_real a0 a1 r.A r.B h.a h.b,
    matching20_real (places a2) (places a3) _ r.X r.Y r.dF hx hy (fun _ _ _ => d2_nonneg _ _ _ _)
      (distF_real _ _ r.X r.Y hx hy) ht.f (fun b => low (r.dF b)) (fun _ _ _ q => q),
    matching4_real (places a3) (places a2) _ r.Y r.X r.dF' hy hx (fun _ _ _ => d2_nonneg _ _ _ _)
      (distF_real _ _ r.Y r.X hy hx) ht.f' (fun b => low (r.dF' b)) (fun _ _ _ q => q),
    matching20_real (places a2) (places a3) _ r.X r.Y r.dL hx hy (fun _ _ _ => d2_nonneg _ _ _ _)
      (distL_real _ _ r.U r.V hu hv) ht.l (fun b i => r.dF b i (nn (r.dL b) i))
      (fun b i j q => by rw [← ht.u b i j q]; rfl),
    matching4_real (places a3) (places a2) _ r.Y r.X r.dL' hy hx (fun _ _ _ => d2_nonneg _ _ _ _)
      (distL_real _ _ r.V r.U hv hu) ht.l' (fun b i => r.dF' b i (nn (r.dL' b) i))
      (fun b i j q => by rw [← ht.u' b i j q]; rfl),
    w_25, w_quarter, w_3quarter]
  simp only [← EReal.coe_add, ← EReal.coe_mul]
  rfl

end Cert.Ref
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Pre
public import proofs.«01_k».proof.Proof.KLaunch
public import proofs.«01_k».proof.Proof.RValue
public import Idealize.ShloMosaic.Adequacy
public import Idealize.ShloMosaic.Init

@[expose] public section

noncomputable section

namespace Cert.Proof

open Idealize.ShloMosaic Idealize.SL.Sem Idealize.ShloMosaic.StableHlo

/-- The kernel's frame. -/
theorem frame_p : Cert.quiescent_Kernel := fun m ρ _ => Cert.Kernel.Gen.frame m ρ

/-- The idealized kernel's frame. -/
theorem frame_pi : Cert.quiescent_KernelIdeal := fun m ρ _ => Cert.KernelIdeal.Gen.frame m ρ

/-- The idealized kernel's frame under the precondition. -/
theorem frame_pi_pre : Cert.quiescent_KernelIdeal_pre_no_ties := fun m ρ _ => Cert.KernelIdeal.Gen.frame m ρ

/-- The reference runs, leaves its arguments as they were, and has no semaphore to leave raised. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's frame under the precondition. -/
theorem frame_ri_pre : Cert.quiescent_ReferenceIdeal_pre_no_ties := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Kernel and reference end with the same loss. -/
theorem algebraic : Cert.algebraic_KernelIdeal_ReferenceIdeal_pre_no_ties := by
  intro m g m' g' hpre hagree
  refine ⟨fun c => Cert.KernelIdeal.Gen.W5 m g c (Proc.devRef .tc Cert.KernelIdeal.main_v20), Cert.KRun.run m g, ?_⟩
  refine (θ_run Cert.ReferenceIdeal.defs _ _).mono (fun r h c => ⟨?_, (h c).2⟩)
    (Cert.ReferenceIdeal.Value.run (F := Ideal) m' g')
  obtain ⟨s, hs, ht⟩ := Cert.Pre.decode _ _ _ _ _ _ (hpre c)
  refine ((h c).1.trans (Cert.ReferenceIdeal.Read.val_main_v220_eq (F := Ideal) (launchContents m' c))).trans ?_
  refine Eq.trans ?_ (Cert.KRun.value m g c hs ht).symm
  refine (Cert.Ref.v220_eq _ _ _ _ _ _).trans ?_
  obtain ⟨e0, e1, e2, e3, e4, e5⟩ := hagree c
  have key := Cert.Ref.loss_real hs ht
  rw [← e0, ← e1, ← e2, ← e3, ← e4, ← e5] at key
  exact key

/-- The five claims. -/
theorem claim : Cert.Claim :=
  ⟨Cert.Kernel.Gen.facts, Cert.KernelIdeal.Gen.facts, Cert.ReferenceIdeal.Gen.facts, Cert.Pre.facts,
    frame_p, frame_pi, frame_pi_pre, frame_ri, frame_ri_pre, trivial, algebraic⟩

end Cert.Proof

end
